-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1048576x64 : Shape := ⟨2, ![1048576, 64]⟩
abbrev S64x1048576 : Shape := ⟨2, ![64, 1048576]⟩
abbrev S8x8x8192x128 : Shape := ⟨4, ![8, 8, 8192, 128]⟩
abbrev S8x8192x8x128 : Shape := ⟨4, ![8, 8192, 8, 128]⟩
abbrev S524288x128 : Shape := ⟨2, ![524288, 128]⟩
abbrev S2097152 : Shape := ⟨1, ![2097152]⟩
abbrev S256 : Shape := ⟨1, ![256]⟩
abbrev S256x128 : Shape := ⟨2, ![256, 128]⟩
abbrev S65536 : Shape := ⟨1, ![65536]⟩
abbrev S_ : Shape := ⟨0, ![]⟩
abbrev S16 : Shape := ⟨1, ![16]⟩
abbrev S1x16 : Shape := ⟨2, ![1, 16]⟩
abbrev S16384 : Shape := ⟨1, ![16384]⟩
abbrev S8192x2x128 : Shape := ⟨3, ![8192, 2, 128]⟩
abbrev S8192x128x2 : Shape := ⟨3, ![8192, 128, 2]⟩
abbrev S1048576x2 : Shape := ⟨2, ![1048576, 2]⟩

abbrev nBuf : Table → Nat
  | .hbm => 9
  | .local .scVector .vmem => 3
  | _ => 0

abbrev bufTy : (tb : Table) → Fin (nBuf tb) → BufTy
  | .hbm, ⟨0, _⟩ => ⟨S1048576x64, .f32⟩
  | .hbm, ⟨1, _⟩ => ⟨S64x1048576, .f32⟩
  | .hbm, ⟨2, _⟩ => ⟨S8x8x8192x128, .f32⟩
  | .hbm, ⟨3, _⟩ => ⟨S8x8192x8x128, .f32⟩
  | .hbm, ⟨4, _⟩ => ⟨S524288x128, .f32⟩
  | .hbm, ⟨5, _⟩ => ⟨S2097152, .f32⟩
  | .hbm, ⟨6, _⟩ => ⟨S8192x2x128, .f32⟩
  | .hbm, ⟨7, _⟩ => ⟨S8192x128x2, .f32⟩
  | .hbm, ⟨8, _⟩ => ⟨S1048576x2, .f32⟩
  | .local .scVector .vmem, ⟨0, _⟩ => ⟨S256, .i32⟩
  | .local .scVector .vmem, ⟨1, _⟩ => ⟨S256x128, .f32⟩
  | .local .scVector .vmem, ⟨2, _⟩ => ⟨S65536, .f32⟩
  | _, _ => ⟨S1048576x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v3_scv : Ref sig .scVector := ⟨.hbm, 4, rfl⟩
abbrev main_v4_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_36 : BitVec 32 := 0#32
  let c64_i32_37 : BitVec 32 := 64#32
  let v169 : BitVec 32 := Scalar.addi c0_i32_36 c64_i32_37
  let c1_i32 : BitVec 32 := 1#32
  ⟨c0_i32_36, v169, c1_i32⟩
def k0_off1 (k0_t1 : Fin k0_t1_loop.trips) : Fin 2 → Nat :=
  let c0_i32_36 : BitVec 32 := 0#32
  let c1_i32 : BitVec 32 := 1#32
  let arg9 : BitVec 32 := Scf.iv c0_i32_36 c1_i32 k0_t1
  let v209 : Index := Scalar.indexCast arg9
  let c0_71 : Index := 0#32
  ![v209.toNat, 0]
def k0_off2 (k0_t1 : Fin k0_t1_loop.trips) (c0_i32_74 : BitVec 32) : Fin 1 → Nat :=
  let c0_i32_36 : BitVec 32 := 0#32
  let c1_i32 : BitVec 32 := 1#32
  let arg9 : BitVec 32 := Scf.iv c0_i32_36 c1_i32 k0_t1
  let c256_i32_73 : BitVec 32 := 256#32
  let v215 : BitVec 32 := Scalar.muli arg9 c256_i32_73
  let v216 : BitVec 32 := Scalar.addi v215 c0_i32_74
  let v217 : Index := Scalar.indexCast v216
  ![v217.toNat]
def k0_off3 (k0_t1 : Fin k0_t1_loop.trips) (c0_i32_74 : BitVec 32) : Fin 1 → Nat :=
  let c0_i32_36 : BitVec 32 := 0#32
  let c1_i32 : BitVec 32 := 1#32
  let arg9 : BitVec 32 := Scf.iv c0_i32_36 c1_i32 k0_t1
  let c256_i32_73 : BitVec 32 := 256#32
  let v215 : BitVec 32 := Scalar.muli arg9 c256_i32_73
  let v216 : BitVec 32 := Scalar.addi v215 c0_i32_74
  let c128_i32_75 : BitVec 32 := 128#32
  let v222 : BitVec 32 := Scalar.addi v216 c128_i32_75
  let v223 : Index := Scalar.indexCast v222
  ![v223.toNat]
def k0_off4 (k0_t1 : Fin k0_t1_loop.trips) : Fin 2 → Nat :=
  let c0_i32_36 : BitVec 32 := 0#32
  let c1_i32 : BitVec 32 := 1#32
  let arg9 : BitVec 32 := Scf.iv c0_i32_36 c1_i32 k0_t1
  let v227 : Index := Scalar.indexCast arg9
  let c16_76 : Index := 16#32
  ![v227.toNat, 16]
def k0_off5 (k0_t1 : Fin k0_t1_loop.trips) : Fin 2 → Nat :=
  let c0_i32_36 : BitVec 32 := 0#32
  let c1_i32 : BitVec 32 := 1#32
  let arg9 : BitVec 32 := Scf.iv c0_i32_36 c1_i32 k0_t1
  let v245 : Index := Scalar.indexCast arg9
  let c32_81 : Index := 32#32
  ![v245.toNat, 32]
def k0_off6 (k0_t1 : Fin k0_t1_loop.trips) : Fin 2 → Nat :=
  let c0_i32_36 : BitVec 32 := 0#32
  let c1_i32 : BitVec 32 := 1#32
  let arg9 : BitVec 32 := Scf.iv c0_i32_36 c1_i32 k0_t1
  let v263 : Index := Scalar.indexCast arg9
  let c48_86 : Index := 48#32
  ![v263.toNat, 48]
def k0_off7 (k0_t1 : Fin k0_t1_loop.trips) : Fin 2 → Nat :=
  let c0_i32_36 : BitVec 32 := 0#32
  let c1_i32 : BitVec 32 := 1#32
  let arg9 : BitVec 32 := Scf.iv c0_i32_36 c1_i32 k0_t1
  let v281 : Index := Scalar.indexCast arg9
  let c64_91 : Index := 64#32
  ![v281.toNat, 64]
def k0_off8 (k0_t1 : Fin k0_t1_loop.trips) : Fin 2 → Nat :=
  let c0_i32_36 : BitVec 32 := 0#32
  let c1_i32 : BitVec 32 := 1#32
  let arg9 : BitVec 32 := Scf.iv c0_i32_36 c1_i32 k0_t1
  let v299 : Index := Scalar.indexCast arg9
  let c80_96 : Index := 80#32
  ![v299.toNat, 80]
def k0_off9 (k0_t1 : Fin k0_t1_loop.trips) : Fin 2 → Nat :=
  let c0_i32_36 : BitVec 32 := 0#32
  let c1_i32 : BitVec 32 := 1#32
  let arg9 : BitVec 32 := Scf.iv c0_i32_36 c1_i32 k0_t1
  let v317 : Index := Scalar.indexCast arg9
  let c96_101 : Index := 96#32
  ![v317.toNat, 96]
def k0_off10 (k0_t1 : Fin k0_t1_loop.trips) : Fin 2 → Nat :=
  let c0_i32_36 : BitVec 32 := 0#32
  let c1_i32 : BitVec 32 := 1#32
  let arg9 : BitVec 32 := Scf.iv c0_i32_36 c1_i32 k0_t1
  let v335 : Index := Scalar.indexCast arg9
  let c112_106 : Index := 112#32
  ![v335.toNat, 112]
def k0_off11 (i : grid0.Coords) (c0_i32_39 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v168 : BitVec 32 := Scalar.muli v1 c65536_i32
  let v170 : BitVec 32 := Scalar.addi v168 c0_i32_39
  ![v170.toNat]
@[reducible] def k0_t2_loop : Scf.Loop 32 :=
  let c64_i32_43 : BitVec 32 := 64#32
  let c64_i32_44 : BitVec 32 := 64#32
  let v175 : BitVec 32 := Scalar.addi c64_i32_43 c64_i32_44
  let c1_i32_45 : BitVec 32 := 1#32
  ⟨c64_i32_43, v175, c1_i32_45⟩
def k0_off12 (k0_t2 : Fin k0_t2_loop.trips) : Fin 2 → Nat :=
  let c64_i32_43 : BitVec 32 := 64#32
  let c1_i32_45 : BitVec 32 := 1#32
  let arg9 : BitVec 32 := Scf.iv c64_i32_43 c1_i32_45 k0_t2
  let v209 : Index := Scalar.indexCast arg9
  let c0_71 : Index := 0#32
  ![v209.toNat, 0]
def k0_off13 (k0_t2 : Fin k0_t2_loop.trips) (c0_i32_74 : BitVec 32) : Fin 1 → Nat :=
  let c64_i32_43 : BitVec 32 := 64#32
  let c1_i32_45 : BitVec 32 := 1#32
  let arg9 : BitVec 32 := Scf.iv c64_i32_43 c1_i32_45 k0_t2
  let c256_i32_73 : BitVec 32 := 256#32
  let v215 : BitVec 32 := Scalar.muli arg9 c256_i32_73
  let v216 : BitVec 32 := Scalar.addi v215 c0_i32_74
  let v217 : Index := Scalar.indexCast v216
  ![v217.toNat]
def k0_off14 (k0_t2 : Fin k0_t2_loop.trips) (c0_i32_74 : BitVec 32) : Fin 1 → Nat :=
  let c64_i32_43 : BitVec 32 := 64#32
  let c1_i32_45 : BitVec 32 := 1#32
  let arg9 : BitVec 32 := Scf.iv c64_i32_43 c1_i32_45 k0_t2
  let c256_i32_73 : BitVec 32 := 256#32
  let v215 : BitVec 32 := Scalar.muli arg9 c256_i32_73
  let v216 : BitVec 32 := Scalar.addi v215 c0_i32_74
  let c128_i32_75 : BitVec 32 := 128#32
  let v222 : BitVec 32 := Scalar.addi v216 c128_i32_75
  let v223 : Index := Scalar.indexCast v222
  ![v223.toNat]
def k0_off15 (k0_t2 : Fin k0_t2_loop.trips) : Fin 2 → Nat :=
  let c64_i32_43 : BitVec 32 := 64#32
  let c1_i32_45 : BitVec 32 := 1#32
  let arg9 : BitVec 32 := Scf.iv c64_i32_43 c1_i32_45 k0_t2
  let v227 : Index := Scalar.indexCast arg9
  let c16_76 : Index := 16#32
  ![v227.toNat, 16]
def k0_off16 (k0_t2 : Fin k0_t2_loop.trips) : Fin 2 → Nat :=
  let c64_i32_43 : BitVec 32 := 64#32
  let c1_i32_45 : BitVec 32 := 1#32
  let arg9 : BitVec 32 := Scf.iv c64_i32_43 c1_i32_45 k0_t2
  let v245 : Index := Scalar.indexCast arg9
  let c32_81 : Index := 32#32
  ![v245.toNat, 32]
def k0_off17 (k0_t2 : Fin k0_t2_loop.trips) : Fin 2 → Nat :=
  let c64_i32_43 : BitVec 32 := 64#32
  let c1_i32_45 : BitVec 32 := 1#32
  let arg9 : BitVec 32 := Scf.iv c64_i32_43 c1_i32_45 k0_t2
  let v263 : Index := Scalar.indexCast arg9
  let c48_86 : Index := 48#32
  ![v263.toNat, 48]
def k0_off18 (k0_t2 : Fin k0_t2_loop.trips) : Fin 2 → Nat :=
  let c64_i32_43 : BitVec 32 := 64#32
  let c1_i32_45 : BitVec 32 := 1#32
  let arg9 : BitVec 32 := Scf.iv c64_i32_43 c1_i32_45 k0_t2
  let v281 : Index := Scalar.indexCast arg9
  let c64_91 : Index := 64#32
  ![v281.toNat, 64]
def k0_off19 (k0_t2 : Fin k0_t2_loop.trips) : Fin 2 → Nat :=
  let c64_i32_43 : BitVec 32 := 64#32
  let c1_i32_45 : BitVec 32 := 1#32
  let arg9 : BitVec 32 := Scf.iv c64_i32_43 c1_i32_45 k0_t2
  let v299 : Index := Scalar.indexCast arg9
  let c80_96 : Index := 80#32
  ![v299.toNat, 80]
def k0_off20 (k0_t2 : Fin k0_t2_loop.trips) : Fin 2 → Nat :=
  let c64_i32_43 : BitVec 32 := 64#32
  let c1_i32_45 : BitVec 32 := 1#32
  let arg9 : BitVec 32 := Scf.iv c64_i32_43 c1_i32_45 k0_t2
  let v317 : Index := Scalar.indexCast arg9
  let c96_101 : Index := 96#32
  ![v317.toNat, 96]
def k0_off21 (k0_t2 : Fin k0_t2_loop.trips) : Fin 2 → Nat :=
  let c64_i32_43 : BitVec 32 := 64#32
  let c1_i32_45 : BitVec 32 := 1#32
  let arg9 : BitVec 32 := Scf.iv c64_i32_43 c1_i32_45 k0_t2
  let v335 : Index := Scalar.indexCast arg9
  let c112_106 : Index := 112#32
  ![v335.toNat, 112]
@[reducible] def k0_t3_loop : Scf.Loop 32 :=
  let c128_i32_50 : BitVec 32 := 128#32
  let c64_i32_51 : BitVec 32 := 64#32
  let v181 : BitVec 32 := Scalar.addi c128_i32_50 c64_i32_51
  let c1_i32_52 : BitVec 32 := 1#32
  ⟨c128_i32_50, v181, c1_i32_52⟩
def k0_off22 (k0_t3 : Fin k0_t3_loop.trips) : Fin 2 → Nat :=
  let c128_i32_50 : BitVec 32 := 128#32
  let c1_i32_52 : BitVec 32 := 1#32
  let arg9 : BitVec 32 := Scf.iv c128_i32_50 c1_i32_52 k0_t3
  let v209 : Index := Scalar.indexCast arg9
  let c0_71 : Index := 0#32
  ![v209.toNat, 0]
def k0_off23 (k0_t3 : Fin k0_t3_loop.trips) (c0_i32_74 : BitVec 32) : Fin 1 → Nat :=
  let c128_i32_50 : BitVec 32 := 128#32
  let c1_i32_52 : BitVec 32 := 1#32
  let arg9 : BitVec 32 := Scf.iv c128_i32_50 c1_i32_52 k0_t3
  let c256_i32_73 : BitVec 32 := 256#32
  let v215 : BitVec 32 := Scalar.muli arg9 c256_i32_73
  let v216 : BitVec 32 := Scalar.addi v215 c0_i32_74
  let v217 : Index := Scalar.indexCast v216
  ![v217.toNat]
def k0_off24 (k0_t3 : Fin k0_t3_loop.trips) (c0_i32_74 : BitVec 32) : Fin 1 → Nat :=
  let c128_i32_50 : BitVec 32 := 128#32
  let c1_i32_52 : BitVec 32 := 1#32
  let arg9 : BitVec 32 := Scf.iv c128_i32_50 c1_i32_52 k0_t3
  let c256_i32_73 : BitVec 32 := 256#32
  let v215 : BitVec 32 := Scalar.muli arg9 c256_i32_73
  let v216 : BitVec 32 := Scalar.addi v215 c0_i32_74
  let c128_i32_75 : BitVec 32 := 128#32
  let v222 : BitVec 32 := Scalar.addi v216 c128_i32_75
  let v223 : Index := Scalar.indexCast v222
  ![v223.toNat]
def k0_off25 (k0_t3 : Fin k0_t3_loop.trips) : Fin 2 → Nat :=
  let c128_i32_50 : BitVec 32 := 128#32
  let c1_i32_52 : BitVec 32 := 1#32
  let arg9 : BitVec 32 := Scf.iv c128_i32_50 c1_i32_52 k0_t3
  let v227 : Index := Scalar.indexCast arg9
  let c16_76 : Index := 16#32
  ![v227.toNat, 16]
def k0_off26 (k0_t3 : Fin k0_t3_loop.trips) : Fin 2 → Nat :=
  let c128_i32_50 : BitVec 32 := 128#32
  let c1_i32_52 : BitVec 32 := 1#32
  let arg9 : BitVec 32 := Scf.iv c128_i32_50 c1_i32_52 k0_t3
  let v245 : Index := Scalar.indexCast arg9
  let c32_81 : Index := 32#32
  ![v245.toNat, 32]
def k0_off27 (k0_t3 : Fin k0_t3_loop.trips) : Fin 2 → Nat :=
  let c128_i32_50 : BitVec 32 := 128#32
  let c1_i32_52 : BitVec 32 := 1#32
  let arg9 : BitVec 32 := Scf.iv c128_i32_50 c1_i32_52 k0_t3
  let v263 : Index := Scalar.indexCast arg9
  let c48_86 : Index := 48#32
  ![v263.toNat, 48]
def k0_off28 (k0_t3 : Fin k0_t3_loop.trips) : Fin 2 → Nat :=
  let c128_i32_50 : BitVec 32 := 128#32
  let c1_i32_52 : BitVec 32 := 1#32
  let arg9 : BitVec 32 := Scf.iv c128_i32_50 c1_i32_52 k0_t3
  let v281 : Index := Scalar.indexCast arg9
  let c64_91 : Index := 64#32
  ![v281.toNat, 64]
def k0_off29 (k0_t3 : Fin k0_t3_loop.trips) : Fin 2 → Nat :=
  let c128_i32_50 : BitVec 32 := 128#32
  let c1_i32_52 : BitVec 32 := 1#32
  let arg9 : BitVec 32 := Scf.iv c128_i32_50 c1_i32_52 k0_t3
  let v299 : Index := Scalar.indexCast arg9
  let c80_96 : Index := 80#32
  ![v299.toNat, 80]
def k0_off30 (k0_t3 : Fin k0_t3_loop.trips) : Fin 2 → Nat :=
  let c128_i32_50 : BitVec 32 := 128#32
  let c1_i32_52 : BitVec 32 := 1#32
  let arg9 : BitVec 32 := Scf.iv c128_i32_50 c1_i32_52 k0_t3
  let v317 : Index := Scalar.indexCast arg9
  let c96_101 : Index := 96#32
  ![v317.toNat, 96]
def k0_off31 (k0_t3 : Fin k0_t3_loop.trips) : Fin 2 → Nat :=
  let c128_i32_50 : BitVec 32 := 128#32
  let c1_i32_52 : BitVec 32 := 1#32
  let arg9 : BitVec 32 := Scf.iv c128_i32_50 c1_i32_52 k0_t3
  let v335 : Index := Scalar.indexCast arg9
  let c112_106 : Index := 112#32
  ![v335.toNat, 112]
@[reducible] def k0_t4_loop : Scf.Loop 32 :=
  let c192_i32_57 : BitVec 32 := 192#32
  let c64_i32_58 : BitVec 32 := 64#32
  let v187 : BitVec 32 := Scalar.addi c192_i32_57 c64_i32_58
  let c1_i32_59 : BitVec 32 := 1#32
  ⟨c192_i32_57, v187, c1_i32_59⟩
def k0_off32 (k0_t4 : Fin k0_t4_loop.trips) : Fin 2 → Nat :=
  let c192_i32_57 : BitVec 32 := 192#32
  let c1_i32_59 : BitVec 32 := 1#32
  let arg9 : BitVec 32 := Scf.iv c192_i32_57 c1_i32_59 k0_t4
  let v209 : Index := Scalar.indexCast arg9
  let c0_71 : Index := 0#32
  ![v209.toNat, 0]
def k0_off33 (k0_t4 : Fin k0_t4_loop.trips) (c0_i32_74 : BitVec 32) : Fin 1 → Nat :=
  let c192_i32_57 : BitVec 32 := 192#32
  let c1_i32_59 : BitVec 32 := 1#32
  let arg9 : BitVec 32 := Scf.iv c192_i32_57 c1_i32_59 k0_t4
  let c256_i32_73 : BitVec 32 := 256#32
  let v215 : BitVec 32 := Scalar.muli arg9 c256_i32_73
  let v216 : BitVec 32 := Scalar.addi v215 c0_i32_74
  let v217 : Index := Scalar.indexCast v216
  ![v217.toNat]
def k0_off34 (k0_t4 : Fin k0_t4_loop.trips) (c0_i32_74 : BitVec 32) : Fin 1 → Nat :=
  let c192_i32_57 : BitVec 32 := 192#32
  let c1_i32_59 : BitVec 32 := 1#32
  let arg9 : BitVec 32 := Scf.iv c192_i32_57 c1_i32_59 k0_t4
  let c256_i32_73 : BitVec 32 := 256#32
  let v215 : BitVec 32 := Scalar.muli arg9 c256_i32_73
  let v216 : BitVec 32 := Scalar.addi v215 c0_i32_74
  let c128_i32_75 : BitVec 32 := 128#32
  let v222 : BitVec 32 := Scalar.addi v216 c128_i32_75
  let v223 : Index := Scalar.indexCast v222
  ![v223.toNat]
def k0_off35 (k0_t4 : Fin k0_t4_loop.trips) : Fin 2 → Nat :=
  let c192_i32_57 : BitVec 32 := 192#32
  let c1_i32_59 : BitVec 32 := 1#32
  let arg9 : BitVec 32 := Scf.iv c192_i32_57 c1_i32_59 k0_t4
  let v227 : Index := Scalar.indexCast arg9
  let c16_76 : Index := 16#32
  ![v227.toNat, 16]
def k0_off36 (k0_t4 : Fin k0_t4_loop.trips) : Fin 2 → Nat :=
  let c192_i32_57 : BitVec 32 := 192#32
  let c1_i32_59 : BitVec 32 := 1#32
  let arg9 : BitVec 32 := Scf.iv c192_i32_57 c1_i32_59 k0_t4
  let v245 : Index := Scalar.indexCast arg9
  let c32_81 : Index := 32#32
  ![v245.toNat, 32]
def k0_off37 (k0_t4 : Fin k0_t4_loop.trips) : Fin 2 → Nat :=
  let c192_i32_57 : BitVec 32 := 192#32
  let c1_i32_59 : BitVec 32 := 1#32
  let arg9 : BitVec 32 := Scf.iv c192_i32_57 c1_i32_59 k0_t4
  let v263 : Index := Scalar.indexCast arg9
  let c48_86 : Index := 48#32
  ![v263.toNat, 48]
def k0_off38 (k0_t4 : Fin k0_t4_loop.trips) : Fin 2 → Nat :=
  let c192_i32_57 : BitVec 32 := 192#32
  let c1_i32_59 : BitVec 32 := 1#32
  let arg9 : BitVec 32 := Scf.iv c192_i32_57 c1_i32_59 k0_t4
  let v281 : Index := Scalar.indexCast arg9
  let c64_91 : Index := 64#32
  ![v281.toNat, 64]
def k0_off39 (k0_t4 : Fin k0_t4_loop.trips) : Fin 2 → Nat :=
  let c192_i32_57 : BitVec 32 := 192#32
  let c1_i32_59 : BitVec 32 := 1#32
  let arg9 : BitVec 32 := Scf.iv c192_i32_57 c1_i32_59 k0_t4
  let v299 : Index := Scalar.indexCast arg9
  let c80_96 : Index := 80#32
  ![v299.toNat, 80]
def k0_off40 (k0_t4 : Fin k0_t4_loop.trips) : Fin 2 → Nat :=
  let c192_i32_57 : BitVec 32 := 192#32
  let c1_i32_59 : BitVec 32 := 1#32
  let arg9 : BitVec 32 := Scf.iv c192_i32_57 c1_i32_59 k0_t4
  let v317 : Index := Scalar.indexCast arg9
  let c96_101 : Index := 96#32
  ![v317.toNat, 96]
def k0_off41 (k0_t4 : Fin k0_t4_loop.trips) : Fin 2 → Nat :=
  let c192_i32_57 : BitVec 32 := 192#32
  let c1_i32_59 : BitVec 32 := 1#32
  let arg9 : BitVec 32 := Scf.iv c192_i32_57 c1_i32_59 k0_t4
  let v335 : Index := Scalar.indexCast arg9
  let c112_106 : Index := 112#32
  ![v335.toNat, 112]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1048576x64 : Shape := ⟨2, ![1048576, 64]⟩
abbrev S1048576x1 : Shape := ⟨2, ![1048576, 1]⟩
abbrev S1048576 : Shape := ⟨1, ![1048576]⟩
abbrev S_ : Shape := ⟨0, ![]⟩
abbrev S1048576x2 : Shape := ⟨2, ![1048576, 2]⟩
abbrev S1 : Shape := ⟨1, ![1]⟩

abbrev nBuf : Space → Nat
  | .hbm => 27
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S1048576x1, .f32⟩
  | .hbm, ⟨2, _⟩ => ⟨S1048576, .f32⟩
  | .hbm, ⟨3, _⟩ => ⟨S_, .f32⟩
  | .hbm, ⟨4, _⟩ => ⟨S1048576, .f32⟩
  | .hbm, ⟨5, _⟩ => ⟨S1048576, .i1⟩
  | .hbm, ⟨6, _⟩ => ⟨S_, .f32⟩
  | .hbm, ⟨7, _⟩ => ⟨S1048576, .f32⟩
  | .hbm, ⟨8, _⟩ => ⟨S1048576, .i1⟩
  | .hbm, ⟨9, _⟩ => ⟨S_, .f32⟩
  | .hbm, ⟨10, _⟩ => ⟨S1048576x2, .f32⟩
  | .hbm, ⟨11, _⟩ => ⟨S1048576x1, .f32⟩
  | .hbm, ⟨12, _⟩ => ⟨S1048576, .f32⟩
  | .hbm, ⟨13, _⟩ => ⟨S_, .f32⟩
  | .hbm, ⟨14, _⟩ => ⟨S1048576, .f32⟩
  | .hbm, ⟨15, _⟩ => ⟨S1048576, .f32⟩
  | .hbm, ⟨16, _⟩ => ⟨S_, .i32⟩
  | .hbm, ⟨17, _⟩ => ⟨S1, .i32⟩
  | .hbm, ⟨18, _⟩ => ⟨S1048576x2, .f32⟩
  | .hbm, ⟨19, _⟩ => ⟨S1048576x1, .f32⟩
  | .hbm, ⟨20, _⟩ => ⟨S1048576, .f32⟩
  | .hbm, ⟨21, _⟩ => ⟨S_, .f32⟩
  | .hbm, ⟨22, _⟩ => ⟨S1048576, .f32⟩
  | .hbm, ⟨23, _⟩ => ⟨S1048576, .f32⟩
  | .hbm, ⟨24, _⟩ => ⟨S_, .i32⟩
  | .hbm, ⟨25, _⟩ => ⟨S1, .i32⟩
  | .hbm, ⟨26, _⟩ => ⟨S1048576x2, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_call0_v0 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_call1_v0 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Proof.Common.lean ====
/-
  What the modules of this proof share: the program as the launch theorem sees it, the resource algebra, names for the
  buffers and memrefs of the kernel, and the scalar functions the kernel computes.

  The kernel's array `runs` is `x` re-laid by the host, `524288 × 128`. Worker `w` (of 32) gathers the 256 rows
  `458759 + 8 * (256 * w + k)` of it into `rows`, and writes, for every gathered value `v`, the number `hi v` (one where
  `v ≥ 0.5`, else zero) and the number `lo v = 1 - hi v` into `out`, row by row: 128 times `hi`, then 128 times `lo`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Writes
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' semaphores are pairwise fit for the launch theorem. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers, as the vector subcores name them -/

/-- The host's re-laid input. -/
abbrev runsV : Memref sig .scVector .hbm S524288x128 .f32 := Memref.whole main_v3_scv
/-- The flat output. -/
abbrev flatV : Memref sig .scVector .hbm S2097152 .f32 := Memref.whole main_v4_scv
/-- A worker's list of row numbers. -/
abbrev idxV : Memref sig .scVector .vmem S256 .i32 := Memref.whole cc0_scratch0
/-- A worker's gathered rows. -/
abbrev rowsV : Memref sig .scVector .vmem S256x128 .f32 := Memref.whole cc0_scratch1
/-- A worker's block of the output. -/
abbrev outV : Memref sig .scVector .vmem S65536 .f32 := Memref.whole cc0_scratch2

/-- The SparseCore a worker runs on, and its subcore. -/
abbrev coreOf (L : grid0.Coords) : Fin τ.nSC := (L 0).castLE hcore0
abbrev subOf (L : grid0.Coords) : Fin τ.nSub := (L 1).castLE hsub0
/-- The thread of the worker at grid coordinates `L`. -/
abbrev thr (d : Dev nD) (L : grid0.Coords) : Thread nD τ := V d (coreOf L) (subOf L)

/-! ## What the kernel computes of one value -/

variable [FloatOps F]

/-- One where `v ≥ 0.5`, else zero. -/
def hi (v : F .f32) : F .f32 :=
  Scalar.select (FloatOps.cmpf .oge v (Scalar.ofBits .f32 0x3F000000#32)) (Scalar.ofBits .f32 0x3F800000#32) (Scalar.ofBits .f32 0x00000000#32)

/-- One minus `hi v`. -/
def lo (v : F .f32) : F .f32 := FloatOps.subf (Scalar.ofBits .f32 0x3F800000#32) (hi v)

/-- Lane `l` of gathered row `R`. -/
def rowLane (R l : ℕ) (hR : R < 256) (hl : l < 128) : S256x128.Idx := fun | 0 => ⟨R, hR⟩ | 1 => ⟨l, hl⟩

/-- A worker's output block from its gathered rows: element `n` belongs to row `n / 256`; the first 128 of a row's 256
    elements are `hi` of the row's lanes, the others `lo`. -/
def blockOf (r : S256x128.Idx → F .f32) (y : S65536.Idx) : F .f32 :=
  have h : (y 0).val < 65536 := (y 0).isLt
  let v := r (rowLane ((y 0).val / 256) ((y 0).val % 128) (by omega) (by omega))
  if (y 0).val % 256 < 128 then hi v else lo v

end Cert.Proof

end
-- ==== Proof.Trip.lean ====
/-
  One trip of the kernel's four compute loops. The four loops differ only in the rows they visit: a trip is eight
  chunks, each reading sixteen lanes of one gathered row and storing `hi` of them and `lo` of them. The chunk is stated
  and proved once, the trip is a list of chunks, and the four loop bodies are this trip at their own rectangles.
-/
module

public import proofs.«01_k».proof.Proof.Common
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The three places chunk `m` of a trip touches: sixteen lanes of `rows`, sixteen elements of `out` for `hi`, sixteen
    for `lo`; each an offset that lies inside its buffer. -/
structure Places where
  ld : Fin 8 → Fin 2 → ℕ
  hld : ∀ m a, ld m a + S1x16.size a ≤ S256x128.size a
  sh : Fin 8 → Fin 1 → ℕ
  hsh : ∀ m a, sh m a + S16.size a ≤ S65536.size a
  sl : Fin 8 → Fin 1 → ℕ
  hsl : ∀ m a, sl m a + S16.size a ≤ S65536.size a

namespace Places
variable (p : Places) (m : Fin 8)
abbrev rLd : Rect S256x128 := Rect.unit (s := S256x128) (p.ld m) S1x16.size (p.hld m)
abbrev rHi : Rect S65536 := Rect.unit (s := S65536) (p.sh m) S16.size (p.hsh m)
abbrev rLo : Rect S65536 := Rect.unit (s := S65536) (p.sl m) S16.size (p.hsl m)
end Places

/-- The sixteen numbers `hi` of sixteen lanes. -/
def hiVec (v : Vec F S1x16 .f32) : FVec F S16 .f32 :=
  select (cmpf .oge (shapeCast S16 v shapeCasts_S1x16_S16) (broadcast S16 (Scalar.ofBits .f32 0x3F000000#32))) k0_pay96 k0_pay97

/-- Chunk `m` of a trip: the load of sixteen lanes, then the two stores, each after a load of what it overwrites. -/
def chunk (L : grid0.Coords) (p : Places) (m : Fin 8) : Prog (TpuEff nD τ sig (Elt F) Λ₀ (.scVector (coreOf L) (subOf L))) Unit := do
  let v : Vec F S1x16 .f32 ← Prog.lift (.load rowsV (p.rLd m).toLoadRect (View.loadsAt_vmem h_S1x16))
  let _ : Vec F S16 .f32 ← Prog.lift (.load outV (p.rHi m).toLoadRect (View.loadsAt_vmem h_S16))
  Prog.lift (.store outV (p.rHi m) (shapeCast S16 (hiVec v) shapeCasts_S16_S16) Finset.univ (View.stores_vmem_bits_univ h_S16 rfl) (.inl rfl))
  let _ : Vec F S16 .f32 ← Prog.lift (.load outV (p.rLo m).toLoadRect (View.loadsAt_vmem h_S16))
  Prog.lift (.store outV (p.rLo m) (shapeCast S16 (subf k0_pay96 (hiVec v)) shapeCasts_S16_S16) Finset.univ (View.stores_vmem_bits_univ h_S16 rfl) (.inl rfl))
  pure ⟨⟩

/-- Chunks one after another. -/
def chunks (L : grid0.Coords) (p : Places) : List (Fin 8) → Prog (TpuEff nD τ sig (Elt F) Λ₀ (.scVector (coreOf L) (subOf L))) Unit
  | [] => pure ⟨⟩
  | m :: ms => chunk L p m >>= fun _ => chunks L p ms

/-- A trip: its eight chunks in order. -/
abbrev trip (L : grid0.Coords) (p : Places) : Prog (TpuEff nD τ sig (Elt F) Λ₀ (.scVector (coreOf L) (subOf L))) Unit :=
  chunks L p [0, 1, 2, 3, 4, 5, 6, 7]

/-! ## The four loops' places -/

/-- The first loop's places at trip `k`. -/
def places1 (k : Fin k0_t1_loop.trips) : Places where
  ld | 0 => k0_off1 k | 1 => k0_off4 k | 2 => k0_off5 k | 3 => k0_off6 k | 4 => k0_off7 k | 5 => k0_off8 k | 6 => k0_off9 k | 7 => k0_off10 k
  hld | 0 => k0_off1_inb k | 1 => k0_off4_inb k | 2 => k0_off5_inb k | 3 => k0_off6_inb k | 4 => k0_off7_inb k | 5 => k0_off8_inb k | 6 => k0_off9_inb k | 7 => k0_off10_inb k
  sh m := k0_off2 k (BitVec.ofNat 32 (16 * m.val))
  hsh m := k0_off2_inb k m
  sl m := k0_off3 k (BitVec.ofNat 32 (16 * m.val))
  hsl m := k0_off3_inb k m

/-- The second loop's places at trip `k`. -/
def places2 (k : Fin k0_t2_loop.trips) : Places where
  ld | 0 => k0_off12 k | 1 => k0_off15 k | 2 => k0_off16 k | 3 => k0_off17 k | 4 => k0_off18 k | 5 => k0_off19 k | 6 => k0_off20 k | 7 => k0_off21 k
  hld | 0 => k0_off12_inb k | 1 => k0_off15_inb k | 2 => k0_off16_inb k | 3 => k0_off17_inb k | 4 => k0_off18_inb k | 5 => k0_off19_inb k | 6 => k0_off20_inb k | 7 => k0_off21_inb k
  sh m := k0_off13 k (BitVec.ofNat 32 (16 * m.val))
  hsh m := k0_off13_inb k m
  sl m := k0_off14 k (BitVec.ofNat 32 (16 * m.val))
  hsl m := k0_off14_inb k m

/-- The third loop's places at trip `k`. -/
def places3 (k : Fin k0_t3_loop.trips) : Places where
  ld | 0 => k0_off22 k | 1 => k0_off25 k | 2 => k0_off26 k | 3 => k0_off27 k | 4 => k0_off28 k | 5 => k0_off29 k | 6 => k0_off30 k | 7 => k0_off31 k
  hld | 0 => k0_off22_inb k | 1 => k0_off25_inb k | 2 => k0_off26_inb k | 3 => k0_off27_inb k | 4 => k0_off28_inb k | 5 => k0_off29_inb k | 6 => k0_off30_inb k | 7 => k0_off31_inb k
  sh m := k0_off23 k (BitVec.ofNat 32 (16 * m.val))
  hsh m := k0_off23_inb k m
  sl m := k0_off24 k (BitVec.ofNat 32 (16 * m.val))
  hsl m := k0_off24_inb k m

/-- The fourth loop's places at trip `k`. -/
def places4 (k : Fin k0_t4_loop.trips) : Places where
  ld | 0 => k0_off32 k | 1 => k0_off35 k | 2 => k0_off36 k | 3 => k0_off37 k | 4 => k0_off38 k | 5 => k0_off39 k | 6 => k0_off40 k | 7 => k0_off41 k
  hld | 0 => k0_off32_inb k | 1 => k0_off35_inb k | 2 => k0_off36_inb k | 3 => k0_off37_inb k | 4 => k0_off38_inb k | 5 => k0_off39_inb k | 6 => k0_off40_inb k | 7 => k0_off41_inb k
  sh m := k0_off33 k (BitVec.ofNat 32 (16 * m.val))
  hsh m := k0_off33_inb k m
  sl m := k0_off34 k (BitVec.ofNat 32 (16 * m.val))
  hsl m := k0_off34_inb k m

section Bodies
variable (L : grid0.Coords) (v1 : BitVec 32) (v3 v157 : IVec S16 32)

set_option maxRecDepth 65536 in
theorem t1_body_eq (k : Fin k0_t1_loop.trips) (u : Unit) :
    k0_t1_body (F := F) L runsV (Memref.isWhole_whole _) flatV (Memref.isWhole_whole _) idxV (Memref.isWhole_whole _) rowsV (Memref.isWhole_whole _)
      outV (Memref.isWhole_whole _) cc0_scratch3 cc0_scratch4 v1 v3 k0_pay96 k0_pay97 v157 k u = trip L (places1 k) := rfl

set_option maxRecDepth 65536 in
theorem t2_body_eq (k : Fin k0_t2_loop.trips) (u : Unit) :
    k0_t2_body (F := F) L runsV (Memref.isWhole_whole _) flatV (Memref.isWhole_whole _) idxV (Memref.isWhole_whole _) rowsV (Memref.isWhole_whole _)
      outV (Memref.isWhole_whole _) cc0_scratch3 cc0_scratch4 v1 v3 k0_pay96 k0_pay97 v157 k u = trip L (places2 k) := rfl

set_option maxRecDepth 65536 in
theorem t3_body_eq (k : Fin k0_t3_loop.trips) (u : Unit) :
    k0_t3_body (F := F) L runsV (Memref.isWhole_whole _) flatV (Memref.isWhole_whole _) idxV (Memref.isWhole_whole _) rowsV (Memref.isWhole_whole _)
      outV (Memref.isWhole_whole _) cc0_scratch3 cc0_scratch4 v1 v3 k0_pay96 k0_pay97 v157 k u = trip L (places3 k) := rfl

set_option maxRecDepth 65536 in
theorem t4_body_eq (k : Fin k0_t4_loop.trips) (u : Unit) :
    k0_t4_body (F := F) L runsV (Memref.isWhole_whole _) flatV (Memref.isWhole_whole _) idxV (Memref.isWhole_whole _) rowsV (Memref.isWhole_whole _)
      outV (Memref.isWhole_whole _) cc0_scratch3 cc0_scratch4 k0_pay96 k0_pay97 k u = trip L (places4 k) := rfl

end Bodies

/-! ## A chunk's run -/

/-- A chunk, holding `rows` at any share and a part of `out` containing the two places it stores to: `rows` is as it
    was, `out` has the two stores. -/
theorem wp_chunk (d : Dev nD) (L : grid0.Coords) (p : Places) (m : Fin 8) {q : PosShare TreeShare} {S : Finset S65536.Idx}
    (r : S256x128.Idx → F .f32) (f : S65536.Idx → F .f32)
    (hH : ((outV).access (p.rHi m)).set ⊆ S) (hL : ((outV).access (p.rLo m)).set ⊆ S) :
    iprop(((rowsV).view.loc (thr d L) ↦{q} r) ∗ ((outV).view.loc (thr d L) ↦[S]{fullShare} f))
      ⊢ wp frame (wpE (defs₀ (F := F)) 𝒱₀ (thr d L) none) Set.univ (chunk L p m)
          fun _ => (iprop(((rowsV).view.loc (thr d L) ↦{q} r)
            ∗ ((outV).view.loc (thr d L) ↦[S]{fullShare} (outV).view.writes (Elt F) f
                [⟨p.rLo m, shapeCast S16 (subf k0_pay96 (hiVec (((rowsV).access (p.rLd m)).read (Elt F) r))) shapeCasts_S16_S16⟩,
                 ⟨p.rHi m, shapeCast S16 (hiVec (((rowsV).access (p.rLd m)).read (Elt F) r)) shapeCasts_S16_S16⟩])) : sProp 𝕄) := by
  unfold chunk
  iintro ⟨Hr, Ho⟩
  sl_exec
  iapply (wp_load_rect 𝒱₀ (thr d L) none Set.univ hH) $$ Ho; iintro Ho
  iapply (wp_store_writes₀ 𝒱₀ (thr d L) none Set.univ hH) $$ Ho; iintro Ho
  iapply (wp_load_rect 𝒱₀ (thr d L) none Set.univ hL) $$ Ho; iintro Ho
  iapply (wp_store_writes 𝒱₀ (thr d L) none Set.univ hL) $$ Ho; iintro Ho
  simp only [Prog.bind, wp_pure]
  imodintro
  isplitl [Hr]; · iexact Hr
  iexact Ho

/-! ## What a chunk leaves -/

/-- The places of a trip at row `R`: sixteen lanes from lane `16 m` of row `R`, and the elements of `out` they go to. -/
structure Places.At (p : Places) (R : ℕ) : Prop where
  ld : ∀ m : Fin 8, p.ld m = ![R, 16 * m.val]
  sh : ∀ m : Fin 8, p.sh m = ![256 * R + 16 * m.val]
  sl : ∀ m : Fin 8, p.sl m = ![256 * R + 16 * m.val + 128]

/-- `f` is right from row `R₀` up to row `R`, and on row `R` except at the chunks `ms`. -/
def Good (r : S256x128.Idx → F .f32) (R₀ R : ℕ) (ms : List (Fin 8)) (f : S65536.Idx → F .f32) : Prop :=
  ∀ y : S65536.Idx, R₀ ≤ (y 0).val / 256 →
    ((y 0).val / 256 < R ∨ ((y 0).val / 256 = R ∧ ∀ m ∈ ms, (y 0).val % 128 / 16 ≠ m.val)) → f y = blockOf r y

/-- Lane `x` of sixteen, as an index of a row of sixteen. -/
def lane16 (x : S16.Idx) : S1x16.Idx := fun | 0 => ⟨0, Nat.one_pos⟩ | 1 => x 0

/-- Lane `x` of the sixteen loaded for chunk `m` of row `R`. -/
theorem hiVec_apply (p : Places) (m : Fin 8) {R : ℕ} (hp : p.At R) (hR : R < 256) (r : S256x128.Idx → F .f32) (x : S16.Idx)
    (hl : 16 * m.val + (x 0).val < 128) :
    hiVec (((rowsV).access (p.rLd m)).read (Elt F) r) x = hi (r (rowLane R (16 * m.val + (x 0).val) hR hl)) := by
  have e1 : shapeCast S16 (((rowsV).access (p.rLd m)).read (Elt F) r) shapeCasts_S1x16_S16 x
      = ((rowsV).access (p.rLd m)).read (Elt F) r (lane16 x) := by
    refine shapeCast_apply _ shapeCasts_S1x16_S16 x (lane16 x) ?_
    rw [Shape.rowMajor_val_two, Shape.rowMajor_val_one]; show 0 * 16 + (x 0).val = (x 0).val; omega
  have e2 : ((rowsV).access (p.rLd m)).read (Elt F) r (lane16 x) = r (rowLane R (16 * m.val + (x 0).val) hR hl) := by
    refine ((View.read_apply _ _).trans (cast_eq _ _)).trans (congrArg r (funext fun a => Fin.ext ?_))
    show p.ld m a + 1 * (lane16 x a).val = _
    rw [hp.ld m]
    match a with
    | 0 => show R + 1 * 0 = R; omega
    | 1 => show 16 * m.val + 1 * (x 0).val = 16 * m.val + (x 0).val; omega
  exact congrArg hi (e1.trans e2)

/-- What a chunk stores for `hi` is the block's part at its place, -/
theorem hi_piece (p : Places) (m : Fin 8) {R : ℕ} (hp : p.At R) (hR : R < 256) (r : S256x128.Idx → F .f32) (x : S16.Idx) :
    shapeCast S16 (hiVec (((rowsV).access (p.rLd m)).read (Elt F) r)) shapeCasts_S16_S16 x = blockOf r ((p.rHi m).emb x) := by
  have hm := m.isLt
  have hx : (x 0).val < 16 := (x 0).isLt
  have e : (((p.rHi m).emb x) 0).val = 256 * R + 16 * m.val + (x 0).val := by
    show p.sh m 0 + 1 * (x 0).val = _; rw [hp.sh m]; show 256 * R + 16 * m.val + 1 * (x 0).val = _; omega
  rw [shapeCast_self, hiVec_apply p m hp hR r x (by omega)]
  unfold blockOf
  dsimp only
  rw [if_pos (by omega)]
  refine congrArg hi (congrArg r (funext fun a => Fin.ext ?_))
  match a with
  | 0 => show R = _ / 256; omega
  | 1 => show 16 * m.val + (x 0).val = _ % 128; omega

/-- and what it stores for `lo`. -/
theorem lo_piece (p : Places) (m : Fin 8) {R : ℕ} (hp : p.At R) (hR : R < 256) (r : S256x128.Idx → F .f32) (x : S16.Idx) :
    shapeCast S16 (subf k0_pay96 (hiVec (((rowsV).access (p.rLd m)).read (Elt F) r))) shapeCasts_S16_S16 x = blockOf r ((p.rLo m).emb x) := by
  have hm := m.isLt
  have hx : (x 0).val < 16 := (x 0).isLt
  have e : (((p.rLo m).emb x) 0).val = 256 * R + 16 * m.val + 128 + (x 0).val := by
    show p.sl m 0 + 1 * (x 0).val = _; rw [hp.sl m]; show 256 * R + 16 * m.val + 128 + 1 * (x 0).val = _; omega
  rw [shapeCast_self]
  show FloatOps.subf (Scalar.ofBits .f32 0x3F800000#32) (hiVec _ x) = _
  rw [hiVec_apply p m hp hR r x (by omega)]
  unfold blockOf
  dsimp only
  rw [if_neg (by omega)]
  refine congrArg lo (congrArg r (funext fun a => Fin.ext ?_))
  match a with
  | 0 => show R = _ / 256; omega
  | 1 => show 16 * m.val + (x 0).val = _ % 128; omega

/-- A chunk's two stores extend what is right by that chunk. -/
theorem good_chunk (p : Places) (m : Fin 8) (ms : List (Fin 8)) {R₀ R : ℕ} (hp : p.At R) (hR : R < 256)
    (r : S256x128.Idx → F .f32) (f : S65536.Idx → F .f32) (hf : Good r R₀ R (m :: ms) f) :
    Good r R₀ R ms ((outV).view.writes (Elt F) f
      [⟨p.rLo m, shapeCast S16 (subf k0_pay96 (hiVec (((rowsV).access (p.rLd m)).read (Elt F) r))) shapeCasts_S16_S16⟩,
       ⟨p.rHi m, shapeCast S16 (hiVec (((rowsV).access (p.rLd m)).read (Elt F) r)) shapeCasts_S16_S16⟩]) := by
  intro y h0 hy
  have hm := m.isLt
  refine (congrFun (View.read_whole (Val := Elt F) (cc0_scratch2 : Ref sig .scVector) _) y).symm.trans ?_
  have hH : y ∈ (p.rHi m).set ↔ 256 * R + 16 * m.val ≤ (y 0).val ∧ (y 0).val < 256 * R + 16 * m.val + 16 := by
    rw [Rect.mem_set_unit, hp.sh m]
    exact ⟨fun h => h 0, fun h a => by match a with | 0 => exact h⟩
  have hL : y ∈ (p.rLo m).set ↔ 256 * R + 16 * m.val + 128 ≤ (y 0).val ∧ (y 0).val < 256 * R + 16 * m.val + 128 + 16 := by
    rw [Rect.mem_set_unit, hp.sl m]
    exact ⟨fun h => h 0, fun h a => by match a with | 0 => exact h⟩
  by_cases hin : y ∈ (p.rHi m).set ∨ y ∈ (p.rLo m).set
  · refine View.read_writes_apply_of_pieces (Val := Elt F) (e := .f32) (outV).view f (blockOf r) _ ?_ y ?_
    · intro q hq x
      rcases List.mem_cons.mp hq with rfl | hq
      · exact lo_piece p m hp hR r x
      · obtain rfl := List.mem_singleton.mp hq
        exact hi_piece p m hp hR r x
    · rcases hin with h | h
      · exact ⟨_, List.mem_cons_of_mem _ (List.mem_singleton.mpr rfl), h⟩
      · exact ⟨_, List.mem_cons_self, h⟩
  · rw [not_or] at hin
    rw [View.read_writes_apply_of_forall_not_mem]
    · refine hf y h0 (hy.imp_right fun h => ⟨h.1, fun m' hm' => ?_⟩)
      rcases List.mem_cons.mp hm' with rfl | hm'
      · have h1 := mt hH.mpr hin.1
        have h2 := mt hL.mpr hin.2
        have := h.1
        omega
      · exact h.2 m' hm'
    · intro q hq
      rcases List.mem_cons.mp hq with rfl | hq
      · exact hin.2
      · obtain rfl := List.mem_singleton.mp hq; exact hin.1

/-! ## A trip's run -/

/-- Quarter `c` of a worker's output block: the rows `64 c … 64 c + 63`. -/
abbrev quarter (c : ℕ) : Finset S65536.Idx := Finset.univ.filter fun y => (y 0).val / 16384 = c

/-- The chunks `ms` of a trip at row `R` of quarter `c`, each stored where it belongs. -/
theorem wp_chunks (d : Dev nD) (L : grid0.Coords) (p : Places) {R₀ R c : ℕ} (hp : p.At R) (hR : R < 256) (hc : R / 64 = c) {q : PosShare TreeShare}
    (r : S256x128.Idx → F .f32) (ms : List (Fin 8)) : ∀ f : S65536.Idx → F .f32, Good r R₀ R ms f →
    (iprop(((rowsV).view.loc (thr d L) ↦{q} r) ∗ ((outV).view.loc (thr d L) ↦[quarter c]{fullShare} f)) : sProp 𝕄)
      ⊢ wp frame (wpE (defs₀ (F := F)) 𝒱₀ (thr d L) none) Set.univ (chunks L p ms)
          fun _ => iprop(((rowsV).view.loc (thr d L) ↦{q} r)
            ∗ ∃ g, ⌜Good r R₀ R [] g⌝ ∗ ((outV).view.loc (thr d L) ↦[quarter c]{fullShare} g)) := by
  induction ms with
  | nil =>
    intro f hf
    iintro ⟨Hr, Ho⟩
    unfold chunks
    rw [wp_pure]
    imodintro
    isplitl [Hr]; · iexact Hr
    iexists f
    isplitr [Ho]; · ipureintro; exact hf
    iexact Ho
  | cons m ms ih =>
    intro f hf
    have hm := m.isLt
    unfold chunks
    rw [wp_bind]
    refine (wp_chunk d L p m r f ?_ ?_).trans (wp_mono frame _ _ fun _ => ih _ (good_chunk p m ms hp hR r f hf))
    · intro y hy
      rw [View.set_slice] at hy
      obtain ⟨z, hz, rfl⟩ := Finset.mem_map.mp hy
      have h := Rect.mem_set_unit.mp hz 0
      rw [hp.sh m] at h
      refine Finset.mem_filter.mpr ⟨Finset.mem_univ _, ?_⟩
      have h1 : 256 * R + 16 * m.val ≤ (z 0).val := h.1
      have h2 : (z 0).val < 256 * R + 16 * m.val + 16 := h.2
      show (z 0).val / 16384 = c
      omega
    · intro y hy
      rw [View.set_slice] at hy
      obtain ⟨z, hz, rfl⟩ := Finset.mem_map.mp hy
      have h := Rect.mem_set_unit.mp hz 0
      rw [hp.sl m] at h
      refine Finset.mem_filter.mpr ⟨Finset.mem_univ _, ?_⟩
      have h1 : 256 * R + 16 * m.val + 128 ≤ (z 0).val := h.1
      have h2 : (z 0).val < 256 * R + 16 * m.val + 128 + 16 := h.2
      show (z 0).val / 16384 = c
      omega

/-- The loops' invariant: `rows` as gathered, and quarter `c` of `out` right on its first `k` rows. -/
def inv (d : Dev nD) (L : grid0.Coords) (q : PosShare TreeShare) (r : S256x128.Idx → F .f32) (c k : ℕ) : sProp 𝕄 :=
  iprop(((rowsV).view.loc (thr d L) ↦{q} r)
    ∗ ∃ f, ⌜Good r (64 * c) (64 * c + k) [0, 1, 2, 3, 4, 5, 6, 7] f⌝ ∗ ((outV).view.loc (thr d L) ↦[quarter c]{fullShare} f))

/-- With no chunk missing on row `R`, the next row's turn begins. -/
theorem Good.next {r : S256x128.Idx → F .f32} {R₀ R : ℕ} {f : S65536.Idx → F .f32} (hf : Good r R₀ R [] f) :
    Good r R₀ (R + 1) [0, 1, 2, 3, 4, 5, 6, 7] f := by
  intro y h0 hy
  refine hf y h0 ?_
  rcases hy with h | ⟨-, h⟩
  · rcases Nat.lt_succ_iff_lt_or_eq.mp h with h | h
    · exact .inl h
    · exact .inr ⟨h, fun _ hm => absurd hm List.not_mem_nil⟩
  · exfalso
    have : (y 0).val % 128 / 16 < 8 := by omega
    exact h ⟨_, this⟩ (by
      generalize (⟨_, this⟩ : Fin 8) = n
      revert n; decide) rfl

/-- One trip takes the invariant at `k` rows to the invariant at `k + 1`. -/
theorem wp_trip (d : Dev nD) (L : grid0.Coords) (p : Places) {c k : ℕ} (hp : p.At (64 * c + k)) (hc : c < 4) (hk : k < 64) {q : PosShare TreeShare}
    (r : S256x128.Idx → F .f32) :
    inv d L q r c k ⊢ wp frame (wpE (defs₀ (F := F)) 𝒱₀ (thr d L) none) Set.univ (trip L p) fun _ => inv d L q r c (k + 1) := by
  unfold inv
  iintro ⟨Hr, %f, %hf, Ho⟩
  iapply ((wp_chunks d L p (c := c) hp (by omega) (by omega) r _ f hf).trans (wp_mono frame _ _ fun _ => by
    iintro ⟨Hr, %g, %hg, Ho⟩
    isplitl [Hr]; · iexact Hr
    iexists g
    isplitr [Ho]; · ipureintro; exact hg.next
    iexact Ho)) $$ [Hr Ho]
  isplitl [Hr] <;> iassumption

end Cert.Proof

end
-- ==== Proof.Shape.lean ====
/-
  A worker's whole body in a form with no repetition: sixteen stores of the list of row numbers, as a recursion over
  their list; the gather and its wait; four quarters, each a loop of sixty-four trips (Trip.lean) and the issue of the
  quarter's copy; the four waits. The printed body IS this program, by unfolding.
-/
module

public import proofs.«01_k».proof.Proof.Trip

@[expose] public section

noncomputable section

namespace Cert.Proof

open Cert.KernelIdeal Cert.KernelIdeal.Gen

open Idealize.ShloMosaic
open Idealize.SL.Sem

variable {F : FTy → Type} [FloatOps F]

/-- A program of the vector subcore at grid coordinates `L`. -/
abbrev TileProg (F : FTy → Type) (L : grid0.Coords) (α : Type) : Type 1 := Prog (TpuEff nD τ sig (Elt F) Λ₀ (.scVector (coreOf L) (subOf L))) α

/-! ## The list of row numbers -/

/-- Where the list's `j`-th sixteen numbers are stored. -/
theorem listOff_inb (j : Fin 16) : ∀ a, (![16 * j.val] : Fin 1 → ℕ) a + S16.size a ≤ S256.size a := by revert j; decide
abbrev listRect (j : Fin 16) : Rect S256 := Rect.unit (s := S256) ![16 * j.val] S16.size (listOff_inb j)

/-- The `j`-th sixteen row numbers, as the kernel computes them. -/
def listPay (L : grid0.Coords) (j : Fin 16) : IVec S16 32 :=
  shapeCast S16 (addi (broadcast S16 458759#32) (muli (broadcast S16 8#32)
    (addi (broadcast S16 (Scalar.addi (Scalar.muli (Scalar.addi (Scalar.muli (BitVec.ofNat 32 (L 1).val) 2#32) (BitVec.ofNat 32 (L 0).val)) 256#32)
      (BitVec.ofNat 32 (16 * j.val)))) (iota .scVector S16 32 [0] iota_S16_d0_w32_scVector)))) shapeCasts_S16_S16

/-- The stores of the list, sixteen numbers each. -/
def storeList (L : grid0.Coords) : List (Fin 16) → TileProg F L Unit
  | [] => pure ⟨⟩
  | j :: js => do
    let _ : Vec F S16 .i32 ← Prog.lift (.load idxV (listRect j).toLoadRect (View.loadsAt_vmem h_S16))
    Prog.lift (.store idxV (listRect j) (listPay L j) Finset.univ (View.stores_vmem_bits_univ h_S16 rfl) (.inl rfl))
    storeList L js

/-! ## The gather -/

/-- All of `runs`, as the gather names it. -/
abbrev runsAll : Memref sig .scVector .hbm S524288x128 .f32 :=
  (runsV).slice (Rect.unit (s := S524288x128) ![0, 0] S524288x128.size inb_S524288x128_S524288x128_0_0) (fun _ => rfl)

/-! ## The quarters -/

/-- Quarter `c` of a worker's output block, and of its block of the flat output. -/
theorem quarterOff_inb (c : Fin 4) : ∀ a, (![16384 * c.val] : Fin 1 → ℕ) a + S16384.size a ≤ S65536.size a := by revert c; decide
abbrev outQ (c : Fin 4) : Memref sig .scVector .vmem S16384 .f32 :=
  (outV).slice (Rect.unit (s := S65536) ![16384 * c.val] S16384.size (quarterOff_inb c)) (fun _ => rfl)
abbrev flatQ (L : grid0.Coords) (c : Fin 4) : Memref sig .scVector .hbm S16384 .f32 :=
  (flatV).slice (Rect.unit (s := S2097152) (k0_off11 L (BitVec.ofNat 32 (16384 * c.val))) S16384.size (k0_off11_inb L c)) (fun _ => rfl)

/-- A loop of trips with the places it visits. -/
structure Quarter where
  loop : Scf.Loop 32
  ok : loop.OK
  places : Fin loop.trips → Places

/-- The four loops. -/
def quarters : Fin 4 → Quarter
  | 0 => ⟨k0_t1_loop, k0_t1_ok, places1⟩
  | 1 => ⟨k0_t2_loop, k0_t2_ok, places2⟩
  | 2 => ⟨k0_t3_loop, k0_t3_ok, places3⟩
  | 3 => ⟨k0_t4_loop, k0_t4_ok, places4⟩

/-- A quarter's loop of trips. -/
def quarterLoop (L : grid0.Coords) (c : Fin 4) : TileProg F L Unit :=
  Scf.Loop.for (quarters c).loop (quarters c).ok ⟨⟩ (fun k _ => trip L ((quarters c).places k))

/-- The issue of a quarter's copy to the flat output. -/
def copyOut (L : grid0.Coords) (c : Fin 4) : TileProg F L Unit :=
  Prog.lift (.enqueueDma (outQ c) (.here (flatQ L c)) (.dma cc0_scratch4.sem) (View.wordExact_bits rfl) (View.wordExact_bits rfl) ⟨Or.inl rfl, trivial⟩)

/-- The quarters in turn: a quarter's loop, then the issue of its copy to the flat output. -/
def runQuarters (L : grid0.Coords) : List (Fin 4) → TileProg F L Unit
  | [] => pure ⟨⟩
  | c :: cs => do
    quarterLoop L c
    copyOut L c
    runQuarters L cs

/-- The waits for the copies. -/
def waitQuarters (L : grid0.Coords) : List (Fin 4) → TileProg F L Unit
  | [] => pure ⟨⟩
  | c :: cs => do
    Prog.lift (.waitDma2 cc0_scratch4.sem (outQ c) (flatQ L c) (View.wordExact_bits rfl) (View.wordExact_bits rfl))
    waitQuarters L cs

/-- A worker's body. -/
def body (L : grid0.Coords) : TileProg F L Unit := do
  storeList L [0, 1, 2, 3, 4, 5, 6, 7, 8, 9, 10, 11, 12, 13, 14, 15]
  SparseCore.enqueueIndirectGather rfl runsAll rowsV gathers_S524288x128_S256x128 idxV rfl cc0_scratch3.sem (View.wordExact_bits rfl) rfl (Or.inl rfl)
  SparseCore.waitIndirectGather cc0_scratch3.sem runsAll rowsV (View.wordExact_bits rfl) (Memref.isWhole_whole _).wordExact
  runQuarters L [0, 1, 2, 3]
  waitQuarters L [0, 1, 2, 3]

/-- The body as its printed parts group it: the first three loops inside the part that stores the list's last numbers. -/
def bodyGrouped (L : grid0.Coords) : TileProg F L Unit := do
  let _ ← (do
    storeList L [0, 1, 2, 3, 4, 5, 6, 7, 8, 9, 10, 11, 12, 13, 14, 15]
    SparseCore.enqueueIndirectGather rfl runsAll rowsV gathers_S524288x128_S256x128 idxV rfl cc0_scratch3.sem (View.wordExact_bits rfl) rfl (Or.inl rfl)
    SparseCore.waitIndirectGather cc0_scratch3.sem runsAll rowsV (View.wordExact_bits rfl) (Memref.isWhole_whole _).wordExact
    quarterLoop L 0
    copyOut L 0
    quarterLoop L 1
    copyOut L 1
    quarterLoop L 2
    pure (Scalar.muli (Scalar.addi (Scalar.muli (BitVec.ofNat 32 (L 1).val) 2#32) (BitVec.ofNat 32 (L 0).val)) 65536#32) : TileProg F L (BitVec 32))
  copyOut L 2
  quarterLoop L 3
  copyOut L 3
  waitQuarters L [0, 1, 2, 3]

set_option maxRecDepth 65536 in
set_option maxHeartbeats 4000000 in
/-- The printed body at the kernel's own buffers is `bodyGrouped`, by unfolding, -/
theorem body_eq_grouped (L : grid0.Coords) :
    cc0__body_skel (F := F) L runsV (Memref.isWhole_whole _) flatV (Memref.isWhole_whole _) idxV (Memref.isWhole_whole _) rowsV (Memref.isWhole_whole _)
      outV (Memref.isWhole_whole _) cc0_scratch3 cc0_scratch4 = bodyGrouped L := rfl

/-- which is `body`, the grouping apart. -/
theorem body_eq (L : grid0.Coords) :
    cc0__body (F := F) L runsV (Memref.isWhole_whole _) flatV (Memref.isWhole_whole _) idxV (Memref.isWhole_whole _) rowsV (Memref.isWhole_whole _)
      outV (Memref.isWhole_whole _) cc0_scratch3 cc0_scratch4 = body L := by
  rw [cc0__body_eq_skeleton, body_eq_grouped]
  unfold bodyGrouped body
  simp only [runQuarters, bind_assoc, pure_bind]

/-! ## The four loops in closed form -/

/-- Each loop makes sixty-four trips. -/
theorem quarters_trips : ∀ c : Fin 4, (quarters c).loop.trips = 64 := by decide +kernel

/-- Trip `k` of quarter `c` visits row `64 c + k`. -/
theorem quarters_at (c : Fin 4) (k : Fin (quarters c).loop.trips) : ((quarters c).places k).At (64 * c.val + k.val) where
  ld := (show ∀ (c : Fin 4) (k : Fin (quarters c).loop.trips) (m : Fin 8), ((quarters c).places k).ld m = ![64 * c.val + k.val, 16 * m.val]
    by decide +kernel) c k
  sh := (show ∀ (c : Fin 4) (k : Fin (quarters c).loop.trips) (m : Fin 8), ((quarters c).places k).sh m = ![256 * (64 * c.val + k.val) + 16 * m.val]
    by decide +kernel) c k
  sl := (show ∀ (c : Fin 4) (k : Fin (quarters c).loop.trips) (m : Fin 8), ((quarters c).places k).sl m = ![256 * (64 * c.val + k.val) + 16 * m.val + 128]
    by decide +kernel) c k

end Cert.Proof

end
-- ==== Proof.RowList.lean ====
/-
  A worker's list of row numbers: after its sixteen stores, entry `k` is `458759 + 8 * (256 * w + k)` for worker `w`,
  below the 524288 rows of `runs`.
-/
module

public import proofs.«01_k».proof.Proof.Shape

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The worker's number. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- Entry `k` of worker `w`'s list. -/
def rowNo (w k : ℕ) : ℕ := 458759 + 8 * (256 * w + k)

/-- The list of worker `w`. -/
def listOf (w : ℕ) (y : S256.Idx) : BitVec 32 := BitVec.ofNat 32 (rowNo w (y 0).val)

theorem rowNo_lt {w k : ℕ} (hw : w < 32) (hk : k < 256) : rowNo w k < 524288 := by unfold rowNo; omega

theorem listOf_toNat {w : ℕ} (hw : w < 32) (y : S256.Idx) : (listOf w y).toNat = rowNo w (y 0).val := by
  have h := rowNo_lt hw (y 0).isLt
  unfold listOf
  rw [BitVec.toNat_ofNat]
  exact Nat.mod_eq_of_lt (by omega)

/-- The sixteen numbers of a store are the list's at its place. -/
theorem listPay_apply (L : grid0.Coords) (j : Fin 16) (x : S16.Idx) : listPay L j x = listOf (wid L) ((listRect j).emb x) := by
  have e : (((listRect j).emb x) 0).val = 16 * j.val + (x 0).val := by show 16 * j.val + 1 * (x 0).val = _; omega
  unfold listPay listOf rowNo wid
  rw [shapeCast_self, e]
  show 458759#32 + 8#32 * ((((BitVec.ofNat 32 (L 1).val * 2#32 + BitVec.ofNat 32 (L 0).val) * 256#32) + BitVec.ofNat 32 (16 * j.val))
    + iota .scVector S16 32 [0] iota_S16_d0_w32_scVector x) = _
  rw [iota_single_apply]
  simp only [← BitVec.ofNat_add, ← BitVec.ofNat_mul]
  congr 1
  ring

/-- `f` is the list except at the stores `js`. -/
def ListGood (w : ℕ) (js : List (Fin 16)) (f : S256.Idx → BitVec 32) : Prop :=
  ∀ y : S256.Idx, (∀ j ∈ js, (y 0).val / 16 ≠ j.val) → f y = listOf w y

theorem listGood_store (L : grid0.Coords) (j : Fin 16) (js : List (Fin 16)) (f : S256.Idx → BitVec 32) (hf : ListGood (wid L) (j :: js) f) :
    ListGood (wid L) js ((idxV).view.writes (Elt F) f [⟨listRect j, listPay L j⟩]) := by
  intro y hy
  refine (congrFun (View.read_whole (Val := Elt F) (cc0_scratch0 : Ref sig .scVector) _) y).symm.trans ?_
  have hj : y ∈ (listRect j).set ↔ 16 * j.val ≤ (y 0).val ∧ (y 0).val < 16 * j.val + 16 := by
    rw [Rect.mem_set_unit]
    exact ⟨fun h => h 0, fun h a => by match a with | 0 => exact h⟩
  by_cases hin : y ∈ (listRect j).set
  · refine View.read_writes_apply_of_pieces (Val := Elt F) (e := .i32) (idxV).view f (listOf (wid L)) _ ?_ y ⟨_, List.mem_singleton.mpr rfl, hin⟩
    intro q hq x
    obtain rfl := List.mem_singleton.mp hq
    exact listPay_apply L j x
  · refine (View.read_writes_apply_of_forall_not_mem (Val := Elt F) (e := .i32) (idxV).view f y _ ?_).trans (hf y fun j' hj' => ?_)
    · intro q hq
      obtain rfl := List.mem_singleton.mp hq
      exact hin
    · rcases List.mem_cons.mp hj' with rfl | hj'
      · have := mt hj.mpr hin
        omega
      · exact hy j' hj'

/-- The stores of the list, from any contents wrong only at those stores. -/
theorem wp_storeList (d : Dev nD) (L : grid0.Coords) (js : List (Fin 16)) : ∀ f : S256.Idx → BitVec 32, ListGood (wid L) js f →
    ((idxV).view.loc (thr d L) ↦{fullShare} f : sProp 𝕄)
      ⊢ wp frame (wpE (defs₀ (F := F)) 𝒱₀ (thr d L) none) Set.univ (storeList L js) fun _ => ((idxV).view.loc (thr d L) ↦{fullShare} listOf (wid L)) := by
  induction js with
  | nil =>
    intro f hf
    obtain rfl : f = listOf (wid L) := funext fun y => hf y fun _ h => absurd h List.not_mem_nil
    unfold storeList
    rw [wp_pure]
    iintro H
    imodintro
    iexact H
  | cons j js ih =>
    intro f hf
    unfold storeList
    iintro H
    have hg := listGood_store (F := F) L j js f hf
    sl_exec
    iassumption

end Cert.Proof

end
-- ==== Proof.Quarters.lean ====
/-
  The four quarters of a worker's block: each quarter's loop fills its part of `out`, then the quarter is copied to its
  place in the flat output. The four copies are on one semaphore; the four waits at the end bring all of them back.
-/
module

public import proofs.«01_k».proof.Proof.RowList

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the workers leave -/

/-- Row `R`, lane `l` of `runs`. -/
def runLane (R l : ℕ) (hR : R < 524288) (hl : l < 128) : S524288x128.Idx := fun | 0 => ⟨R, hR⟩ | 1 => ⟨l, hl⟩

/-- The rows of `runs` that worker `w` gathers. -/
def rowsOf (X : S524288x128.Idx → F .f32) (w : ℕ) (hw : w < 32) (z : S256x128.Idx) : F .f32 :=
  X (runLane (rowNo w (z 0).val) (z 1).val (rowNo_lt hw (z 0).isLt) (z 1).isLt)

/-- Element `n` of a block. -/
def blockIx (n : ℕ) (h : n < 65536) : S65536.Idx := fun | 0 => ⟨n, h⟩

/-- The flat output: worker `w`'s block of it at `65536 * w`. -/
def flatOf (X : S524288x128.Idx → F .f32) (n : S2097152.Idx) : F .f32 :=
  blockOf (rowsOf X ((n 0).val / 65536) (by have : (n 0).val < 2097152 := (n 0).isLt; omega)) (blockIx ((n 0).val % 65536) (by omega))

/-- Element `y` of worker `w`'s block. -/
theorem flatOf_block (X : S524288x128.Idx → F .f32) {w : ℕ} (hw : w < 32) (n : S2097152.Idx) (y : S65536.Idx)
    (h : (n 0).val = 65536 * w + (y 0).val) : flatOf X n = blockOf (rowsOf X w hw) y := by
  have hy : (y 0).val < 65536 := (y 0).isLt
  obtain rfl : w = (n 0).val / 65536 := by omega
  unfold flatOf
  refine congrArg _ (funext fun a => Fin.ext ?_)
  match a with
  | 0 => show (n 0).val % 65536 = (y 0).val; omega

/-! ## The places of the quarters -/

theorem outQ_emb (c : Fin 4) (z : S16384.Idx) : (((outQ c).view.emb z : S65536.Idx) 0).val = 16384 * c.val + (z 0).val := by
  show 16384 * c.val + 1 * (z 0).val = _; omega

theorem flatQ_emb (L : grid0.Coords) (c : Fin 4) (z : S16384.Idx) :
    (((flatQ L c).view.emb z : S2097152.Idx) 0).val = 65536 * wid L + 16384 * c.val + (z 0).val := by
  show k0_off11 L (BitVec.ofNat 32 (16384 * c.val)) 0 + 1 * (z 0).val = _
  rw [k0_off11_eq]
  show 131072 * (L 1).val + 65536 * (L 0).val + 16384 * c.val + 1 * (z 0).val = _
  unfold wid; omega

theorem set_outQ (c : Fin 4) : (outQ c).view.set = quarter c.val := by
  show ((outV).view.slice _).set = _
  rw [View.set_slice]
  ext y
  refine ⟨fun h => ?_, fun h => ?_⟩
  · obtain ⟨z, hz, rfl⟩ := Finset.mem_map.mp h
    have h := Rect.mem_set_unit.mp hz 0
    have h1 : 16384 * c.val ≤ (z 0).val := h.1
    have h2 : (z 0).val < 16384 * c.val + 16384 := h.2
    refine Finset.mem_filter.mpr ⟨Finset.mem_univ _, ?_⟩
    show (z 0).val / 16384 = c.val
    omega
  · have h := (Finset.mem_filter.mp h).2
    refine Finset.mem_map.mpr ⟨y, Rect.mem_set_unit.mpr fun a => ?_, rfl⟩
    match a with
    | 0 =>
      show 16384 * c.val ≤ (y 0).val ∧ (y 0).val < 16384 * c.val + 16384
      have h : (y 0).val / 16384 = c.val := h
      omega

/-! ## A quarter's loop -/

variable (d : Dev nD) (L : grid0.Coords)

/-- The rows a worker gathers. -/
abbrev myRows (X : S524288x128.Idx → F .f32) : S256x128.Idx → F .f32 := rowsOf X (wid L) (wid_lt L)

/-- A quarter's loop, from any contents of the quarter: `rows` is as it was, the quarter is right. -/
theorem wp_quarterLoop (c : Fin 4) (r : S256x128.Idx → F .f32) :
    iprop(((rowsV).view.loc (thr d L) ↦{fullShare} r) ∗ ∃ f, ((outV).view.loc (thr d L) ↦[quarter c.val]{fullShare} f : sProp 𝕄))
      ⊢ wp frame (wpE (defs₀ (F := F)) 𝒱₀ (thr d L) none) Set.univ (quarterLoop L c)
          fun _ => iprop(((rowsV).view.loc (thr d L) ↦{fullShare} r) ∗ ((outV).view.loc (thr d L) ↦[quarter c.val]{fullShare} blockOf r)) := by
  unfold quarterLoop
  iintro ⟨Hr, %f, Ho⟩
  iapply (Scf.wp_for frame (wpE (defs₀ (F := F)) 𝒱₀ (thr d L) none) Set.univ (quarters c).loop.lb (quarters c).loop.ub (quarters c).loop.st
    (quarters c).ok ⟨⟩ (fun k _ => trip L ((quarters c).places k)) (fun k _ => inv d L fullShare r c.val k)
    (fun k _ => wp_trip d L _ (quarters_at c k) c.isLt (lt_of_lt_of_eq k.isLt (quarters_trips c)) r))
  isplitl [Hr Ho]
  · unfold inv
    isplitl [Hr]; · iexact Hr
    iexists f
    isplitr [Ho]
    · ipureintro
      intro y h0 h
      exfalso
      rcases h with h | ⟨-, h⟩
      · omega
      · have : (y 0).val % 128 / 16 < 8 := by omega
        exact h ⟨_, this⟩ (by
          generalize (⟨_, this⟩ : Fin 8) = n
          revert n; decide) rfl
    · iexact Ho
  · iintro %acc HI
    unfold inv
    icases HI with ⟨Hr, %g, %hg, Ho⟩
    isplitl [Hr]; · iexact Hr
    have e : ∀ y ∈ quarter c.val, g y = blockOf r y := fun y hy => by
      have hy : (y 0).val / 16384 = c.val := (Finset.mem_filter.mp hy).2
      refine hg y (by omega) (.inl ?_)
      rw [show Scf.trips (quarters c).loop.lb (quarters c).loop.ub (quarters c).loop.st = 64 from quarters_trips c]
      omega
    iapply (Entails.of_eq (pointsTo_congr e)) $$ Ho

/-! ## The copies -/

/-- What a quarter's copy brings back: its place of the flat output at the output's values, and the quarter. -/
def landed (X : S524288x128.Idx → F .f32) (c : Fin 4) : sProp 𝕄 :=
  iprop(((flatQ L c).view.loc (thr d L) ↦[(flatQ L c).view.set]{fullShare} flatOf X)
    ∗ ((outQ c).view.loc (thr d L) ↦[(outQ c).view.set]{fullShare} blockOf (myRows L X)))

instance (X : S524288x128.Idx → F .f32) (c : Fin 4) : Storable (upEmb : UEmb _ 𝕄) (landed d L X c) := by
  unfold landed; infer_instance

/-- The units of a quarter's copy. -/
abbrev units : ℕ := (main_v4_scv : Ref sig .scVector).dmaCredit S16384 .f32

/-- The four copies on the semaphore, the first `k` issued and `u` units waited for. -/
abbrev copies (X : S524288x128.Idx → F .f32) (k u : ℕ) : sProp 𝕄 :=
  Transfers.Batch (Lvl := ℕ) countersEmb (thr d L) (.dma cc0_scratch4.sem) (default : HIx 1) units (landed d L X) k u

/-- A filled quarter's copy lands the output's values. -/
theorem write_flat (X : S524288x128.Idx → F .f32) (c : Fin 4) (f : S2097152.Idx → F .f32) :
    ∀ n ∈ (flatQ L c).view.set, (flatQ L c).view.write (Elt F) f
      ((ReadAs.same : ReadAs (Elt F) S16384 .f32 S16384 .f32).apply ((outQ c).view.read (Elt F) (blockOf (myRows L X)))) Finset.univ n = flatOf X n := by
  intro n hn
  obtain ⟨z, -, rfl⟩ := Finset.mem_map.mp hn
  refine (View.write_emb_of_mem (Val := Elt F) (v := (flatQ L c).view) _ _ (Finset.mem_univ z)).trans ((cast_eq _ _).trans ?_)
  refine ((View.read_apply _ _).trans (cast_eq _ _)).trans ?_
  refine (flatOf_block X (wid_lt L) _ _ ?_).symm
  rw [flatQ_emb, outQ_emb]
  omega

/-- The issue of a filled quarter's copy. -/
theorem wp_copyOut (X : S524288x128.Idx → F .f32) (c : Fin 4) :
    iprop(((outV).view.loc (thr d L) ↦[quarter c.val]{fullShare} blockOf (myRows L X))
        ∗ (∃ f, ((flatQ L c).view.loc (thr d L) ↦[(flatQ L c).view.set]{fullShare} f)) ∗ copies d L X c.val 0)
      ⊢ wp frame (wpE (defs₀ (F := F)) 𝒱₀ (thr d L) none) Set.univ (copyOut L c) fun _ => (copies d L X (c.val + 1) 0 : sProp 𝕄) := by
  unfold copyOut
  iintro ⟨Ho, ⟨%f, Hf⟩, HB⟩
  ihave Ho' := (Entails.of_eq (show ((outV).view.loc (thr d L) ↦[quarter c.val]{fullShare} blockOf (myRows L X) : sProp 𝕄)
    = ((outQ c).view.loc (thr d L) ↦[(outQ c).view.set]{fullShare} blockOf (myRows L X)) by rw [set_outQ])) $$ Ho
  iapply (Transfers.wp_dmaBatch countersEmb 𝒱₀ (thr d L) none (default : HIx 1) units (q := fullShare)
    (fs := blockOf (myRows L X)) (fd := f) (D := landed d L X) (u := 0) rfl (Finset.Subset.refl _) c.isLt (Nat.zero_le _) (by
    unfold landed
    exact sep_mono_left (Entails.of_eq (pointsTo_congr (write_flat L X c f))))) $$ [Ho' Hf HB]
  · isplitl [Ho']; · iexact Ho'
    isplitl [Hf]; · iexact Hf
    iexact HB
  iintro HB
  rw [wp_ret]
  imodintro
  iexact HB

/-- What a quarter needs before its turn: its part of `out` and its place of the flat output, at any contents. -/
def blank (c : Fin 4) : sProp 𝕄 :=
  iprop((∃ f, ((outV).view.loc (thr d L) ↦[quarter c.val]{fullShare} f)) ∗ ∃ f, ((flatQ L c).view.loc (thr d L) ↦[(flatQ L c).view.set]{fullShare} f))

/-- The quarters from the `j`-th on, in turn. -/
theorem wp_runQuarters (X : S524288x128.Idx → F .f32) (cs : List (Fin 4)) : ∀ j, j + cs.length = 4 → cs.map Fin.val = List.range' j cs.length →
    iprop(((rowsV).view.loc (thr d L) ↦{fullShare} myRows L X) ∗ bigSep (Transfers.pending j) (blank d L) ∗ copies d L X j 0)
      ⊢ wp frame (wpE (defs₀ (F := F)) 𝒱₀ (thr d L) none) Set.univ (runQuarters L cs)
          fun _ => (iprop(((rowsV).view.loc (thr d L) ↦{fullShare} myRows L X) ∗ copies d L X 4 0) : sProp 𝕄) := by
  induction cs with
  | nil =>
    intro j hj _
    obtain rfl : j = 4 := hj
    unfold runQuarters
    rw [wp_pure]
    iintro ⟨Hr, -, HB⟩
    imodintro
    isplitl [Hr] <;> iassumption
  | cons c cs ih =>
    intro j hj hcs
    rw [List.map_cons, List.length_cons, List.range'_succ, List.cons.injEq] at hcs
    obtain ⟨rfl, hcs⟩ := hcs
    rw [Transfers.bigSep_pending_step _ _ c.isLt]
    unfold runQuarters
    rw [wp_bind]
    iintro ⟨Hr, ⟨Hb, Hbs⟩, HB⟩
    unfold blank
    icases Hb with ⟨Ho, Hf⟩
    iapply (wp_wand_r frame)
    isplitl [Hr Ho]
    · iapply (wp_quarterLoop d L c (myRows L X)) $$ [Hr Ho]
      isplitl [Hr] <;> iassumption
    iintro %_ ⟨Hr, Ho⟩
    rw [wp_bind]
    iapply (wp_wand_r frame)
    isplitl [Ho Hf HB]
    · iapply (wp_copyOut d L X c) $$ [Ho Hf HB]
      isplitl [Ho]; · iexact Ho
      isplitl [Hf] <;> iassumption
    iintro %_ HB
    iapply (ih (c.val + 1) (by rw [List.length_cons] at hj; omega) hcs) $$ [Hr Hbs HB]
    isplitl [Hr]; · iexact Hr
    isplitl [Hbs]; · iexact Hbs
    iexact HB

/-- The last `cs.length` of the four waits: all four copies come back at the last. -/
theorem wp_waitQuarters (X : S524288x128.Idx → F .f32) (O : CellTallies nD τ sig (HIx 1)) (cs : List (Fin 4)) :
    ∀ (j : ℕ) (W : Waits sig (HIx 1)), j + cs.length = 4 → cs ≠ [] →
    iprop(copies d L X 4 (j * units) ∗ owes (thr d L) O W ∗ Transfers.MayWaits (thr d L) (default : HIx 1) O)
      ⊢ wp frame (wpE (defs₀ (F := F)) 𝒱₀ (thr d L) none) Set.univ (waitQuarters L cs)
          fun _ => (iprop(bigSep Finset.univ (landed d L X) ∗ semVal (thr d L, .dma cc0_scratch4.sem) 0
            ∗ ∃ W', ⌜∀ p ∈ W', p ∈ W ∨ p.2 = none⌝ ∗ owes (thr d L) O W') : sProp 𝕄) := by
  induction cs with
  | nil => intro _ _ _ h; exact absurd rfl h
  | cons c cs ih =>
    intro j W hj _
    rw [List.length_cons] at hj
    unfold waitQuarters
    iintro ⟨HB, HO, #Hmw⟩
    rcases Nat.eq_zero_or_pos cs.length with h0 | h0
    · obtain rfl := List.length_eq_zero_iff.mp h0
      obtain rfl : j = 3 := by rw [h0] at hj; omega
      iapply (Transfers.wp_waitBatchLastO countersEmb 𝒱₀ (thr d L) none (default : HIx 1) (N := units) rfl (by decide) (D := landed d L X) (u := 3 * units) (by decide)) $$ [HB HO]
      · isplitl [HB]; · iexact HB
        isplitl [HO]; · iexact HO
        iapply (Transfers.MayWaits.elim (SemLoc.dma cc0_scratch4.sem)) $$ Hmw
      iintro ⟨HD, Hs, HO⟩
      unfold waitQuarters
      simp only [Prog.bind, wp_pure]
      imodintro
      isplitl [HD]; · iexact HD
      isplitl [Hs]; · iexact Hs
      iexists _
      isplitr; swap; · iexact HO
      ipureintro
      intro p hp
      rcases Finset.mem_insert.mp hp with rfl | hp
      · exact .inr rfl
      · exact .inl hp
    · iapply (Transfers.wp_waitBatchO countersEmb 𝒱₀ (thr d L) none (default : HIx 1) (N := units) rfl (D := landed d L X) (u := j * units) (by
        have : 0 < units := by decide
        have : j + 1 < 4 := by omega
        nlinarith)) $$ [HB HO]
      · isplitl [HB]; · iexact HB
        isplitl [HO]; · iexact HO
        iapply (Transfers.MayWaits.elim (SemLoc.dma cc0_scratch4.sem)) $$ Hmw
      iintro ⟨HB, HO⟩
      rw [← Nat.succ_mul]
      iapply (wp_wand_r frame)
      isplitl [HB HO]
      · iapply (ih (j + 1) _ (by omega) (List.ne_nil_of_length_pos h0)) $$ [HB HO]
        isplitl [HB]; · iexact HB
        isplitl [HO]; · iexact HO
        iexact Hmw
      iintro %_ ⟨HD, Hs, %W', %hW', HO⟩
      isplitl [HD]; · iexact HD
      isplitl [Hs]; · iexact Hs
      iexists W'
      isplitr; swap; · iexact HO
      ipureintro
      intro p hp
      rcases hW' p hp with h | h
      · rcases Finset.mem_insert.mp h with rfl | h
        · exact .inr rfl
        · exact .inl h
      · exact .inr h

end Cert.Proof

end
-- ==== Proof.Gather.lean ====
/-
  The gather: row `k` of `rows` becomes the row of `runs` the worker's list names.
-/
module

public import proofs.«01_k».proof.Proof.Quarters

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The gather and its wait. -/
def gather : TileProg F L Unit := do
  SparseCore.enqueueIndirectGather rfl runsAll rowsV gathers_S524288x128_S256x128 idxV rfl cc0_scratch3.sem (View.wordExact_bits rfl) rfl (Or.inl rfl)
  SparseCore.waitIndirectGather cc0_scratch3.sem runsAll rowsV (View.wordExact_bits rfl) (Memref.isWhole_whole _).wordExact

/-- The body, the gather named. -/
theorem body_gather : body (F := F) L = (do
    storeList L [0, 1, 2, 3, 4, 5, 6, 7, 8, 9, 10, 11, 12, 13, 14, 15]
    gather L
    runQuarters L [0, 1, 2, 3]
    waitQuarters L [0, 1, 2, 3]) := by
  unfold body gather
  simp only [bind_assoc]

/-- The list's words name rows of `runs`. -/
theorem list_inb : ∀ x, ((idxV).view.read (Elt F) (listOf (wid L)) x).toNat < S524288x128.size gathers_S524288x128_S256x128.axis := by
  intro x
  rw [show (idxV).view.read (Elt F) (listOf (wid L)) x = listOf (wid L) x from congrFun (View.read_whole (Val := Elt F) (cc0_scratch0 : Ref sig .scVector) _) x,
    listOf_toNat (wid_lt L)]
  exact rowNo_lt (wid_lt L) (x 0).isLt

/-- What the gather lands: the worker's rows. -/
theorem gathered (X : S524288x128.Idx → F .f32) (r : S256x128.Idx → F .f32) :
    (rowsV).view.write (Elt F) r (SparseCore.gatherPayload gathers_S524288x128_S256x128 ((runsAll).view.read (Elt F) X)
      (SparseCore.rows ((idxV).view.read (Elt F) (listOf (wid L))) rfl (list_inb (F := F) L))) Finset.univ = myRows L X := by
  rw [View.write_whole_univ]
  funext z
  unfold SparseCore.gatherPayload
  refine ((View.read_apply _ _).trans (cast_eq _ _)).trans (congrArg X (funext fun a => Fin.ext ?_))
  match a with
  | 0 =>
    show 0 + 1 * (gathers_S524288x128_S256x128.idx _ z gathers_S524288x128_S256x128.axis).val = rowNo (wid L) (z 0).val
    rw [Shape.Gathers.idx_axis, Nat.zero_add, Nat.one_mul]
    show ((idxV).view.read (Elt F) (listOf (wid L)) _).toNat = _
    rw [show ∀ x, (idxV).view.read (Elt F) (listOf (wid L)) x = listOf (wid L) x from
      congrFun (View.read_whole (Val := Elt F) (cc0_scratch0 : Ref sig .scVector) _), listOf_toNat (wid_lt L)]
    refine congrArg (rowNo (wid L)) ?_
    have h := Shape.rowMajor_val_one (d := ![256]) (S256.rowMajor.symm (Fin.cast rfl (z gathers_S524288x128_S256x128.axis')))
    rw [Equiv.apply_symm_apply] at h
    exact h.symm
  | 1 =>
    show 0 + 1 * (gathers_S524288x128_S256x128.idx _ z 1).val = (z 1).val
    rw [Shape.Gathers.idx_of_ne _ _ _ _ (by decide), Nat.zero_add, Nat.one_mul]
    rfl

/-- The gather's run, holding a share of `runs`. -/
theorem wp_gather (X : S524288x128.Idx → F .f32) (r : S256x128.Idx → F .f32) (q : PosShare TreeShare) (O : CellTallies nD τ sig (HIx 1)) (W : Waits sig (HIx 1)) :
    iprop(((runsV).view.loc (thr d L) ↦{q} X) ∗ ((rowsV).view.loc (thr d L) ↦{fullShare} r)
        ∗ ((idxV).view.loc (thr d L) ↦{fullShare} listOf (wid L)) ∗ semVal (thr d L, .dma cc0_scratch3.sem) 0
        ∗ owes (thr d L) O W ∗ Transfers.MayWaits (thr d L) (default : HIx 1) O)
      ⊢ wp frame (wpE (defs₀ (F := F)) 𝒱₀ (thr d L) none) Set.univ (gather L)
          fun _ => (iprop(((runsV).view.loc (thr d L) ↦{q} X) ∗ ((rowsV).view.loc (thr d L) ↦{fullShare} myRows L X)
            ∗ ((idxV).view.loc (thr d L) ↦{fullShare} listOf (wid L)) ∗ semVal (thr d L, .dma cc0_scratch3.sem) 0
            ∗ owes (thr d L) O (insert (SemLoc.dma cc0_scratch3.sem, none) W)) : sProp 𝕄) := by
  unfold gather
  iintro ⟨Hx, Hr, Hi, Hs, HO, #Hmw⟩
  ihave Hxs := (pointsTo_split_subset (ℓ := (runsV).view.loc (thr d L)) (q := q) (f := X) (S := Finset.univ) (Finset.subset_univ (runsAll).view.set)).1 $$ Hx
  icases Hxs with ⟨Hxs, Hxr⟩
  have hrs : (rowsV).view.set = Finset.univ := View.set_whole _
  have his : (idxV).view.set = Finset.univ := View.set_whole _
  ihave Hr' := (Entails.of_eq (show ((rowsV).view.loc (thr d L) ↦{fullShare} r : sProp 𝕄)
      = (rowsV).view.loc (thr d L) ↦[(rowsV).view.set]{fullShare} r by rw [hrs])) $$ Hr
  ihave Hi' := (Entails.of_eq (show ((idxV).view.loc (thr d L) ↦{fullShare} listOf (wid L) : sProp 𝕄)
      = (idxV).view.loc (thr d L) ↦[(idxV).view.set]{fullShare} listOf (wid L) by rw [his])) $$ Hi
  have hN : ∀ h : S524288x128.Gathers 0 S256x128, ∑ j, ((rowsV).slice (S256x128.rowRect h.axis' j) (S256x128.stride_rowRect h.axis' j)).view.dmaCredit
      = (rowsV).view.dmaCredit := by
    intro h
    refine (Finset.sum_const (cc0_scratch1.dmaCredit (S256x128.rowShape h.axis') .f32)).trans ?_
    revert h
    decide +kernel
  iapply (SparseCore.wp_indirectGatherLocal countersEmb 𝒱₀ (thr d L) none (hg := gathers_S524288x128_S256x128) (default : HIx 1)
      (rowsV).view.dmaCredit (hN _) (by decide) (list_inb (F := F) L)) $$ [Hxs Hr' Hi' Hs]
  · isplitl [Hxs]; · iexact Hxs
    isplitl [Hr']; · iexact Hr'
    isplitl [Hi']; · iexact Hi'
    iexact Hs
  iintro Hfl
  iapply (Transfers.wp_waitLocalO countersEmb 𝒱₀ (thr d L) none (default : HIx 1) (rfl : (rowsV).view.dmaCredit = _)) $$ [Hfl HO]
  · isplitl [Hfl]; · iexact Hfl
    isplitl [HO]; · iexact HO
    iapply (Transfers.MayWaits.elim (SemLoc.dma cc0_scratch3.sem)) $$ Hmw
  iintro ⟨⟨Hr, Hxs, Hi⟩, Hs, HO⟩
  rw [wp_ret]
  imodintro
  isplitl [Hxs Hxr]
  · iapply (pointsTo_split_subset (ℓ := (runsV).view.loc (thr d L)) (q := q) (f := X) (S := Finset.univ) (Finset.subset_univ (runsAll).view.set)).2 $$ [Hxs Hxr]
    isplitl [Hxs] <;> iassumption
  isplitl [Hr]
  · rw [gathered, hrs]
    iexact Hr
  isplitl [Hi]
  · rw [his]
    iexact Hi
  isplitl [Hs] <;> iassumption

end Cert.Proof

end
-- ==== Proof.Tile.lean ====
/-
  A worker's task: from a share of `runs` and its block of the flat output, at any contents, it leaves the block at the
  output's values and the share as it was.
-/
module

public import proofs.«01_k».proof.Proof.Gather

@[expose] public section

noncomputable section

namespace Cert.Proof

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What a worker is handed and hands back -/

/-- The re-laid input and the flat output on device `d`. -/
abbrev runsLoc (d : Dev nD) : Loc nD τ sig := (SparseCore.T d).loc main_v3
abbrev flatLoc (d : Dev nD) : Loc nD τ sig := (SparseCore.T d).loc main_v4

/-- Worker `w`'s block of the flat output. -/
abbrev block (w : ℕ) : Finset S2097152.Idx := Finset.univ.filter fun n => (n 0).val / 65536 = w

/-- A worker's share of `runs`. -/
abbrev runsShare (d : Dev nD) (X : S524288x128.Idx → F .f32) (w : ℕ) : sProp 𝕄 := runsLoc d ↦{Transfers.shareTokN fullShare w} X

/-- What worker `w` is handed. -/
abbrev given (d : Dev nD) (X : S524288x128.Idx → F .f32) (w : ℕ) : sProp 𝕄 := iprop(runsShare d X w ∗ ∃ f, flatLoc d ↦[block w]{fullShare} f)

/-- What worker `w` hands back. -/
abbrev returned (d : Dev nD) (X : S524288x128.Idx → F .f32) (w : ℕ) : sProp 𝕄 := iprop(runsShare d X w ∗ flatLoc d ↦[block w]{fullShare} flatOf X)

/-! ## Blocks and quarters -/

variable (d : Dev nD) (L : grid0.Coords)

/-- The quarters make the block of `out`, -/
theorem out_quarters : (Finset.univ : Finset (Fin 4)).biUnion (fun c => quarter c.val) = Finset.univ := by
  ext y
  have h : (y 0).val < 65536 := (y 0).isLt
  simp only [Finset.mem_biUnion, Finset.mem_univ, true_and, iff_true]
  exact ⟨⟨(y 0).val / 16384, by omega⟩, Finset.mem_filter.mpr ⟨Finset.mem_univ _, rfl⟩⟩

/-- disjointly, -/
theorem out_disjoint : ∀ c ∈ (Finset.univ : Finset (Fin 4)), ∀ c' ∈ (Finset.univ : Finset (Fin 4)), c ≠ c' → Disjoint (quarter c.val) (quarter c'.val) := by
  intro c _ c' _ h
  rw [Finset.disjoint_left]
  intro y hy hy'
  exact h (Fin.ext ((Finset.mem_filter.mp hy).2.symm.trans (Finset.mem_filter.mp hy').2))

/-- and their places make the block of the flat output, -/
theorem set_flatQ (c : Fin 4) : (flatQ L c).view.set = Finset.univ.filter fun n : S2097152.Idx => (n 0).val / 16384 = 4 * wid L + c.val := by
  ext n
  refine ⟨fun h => ?_, fun h => ?_⟩
  · obtain ⟨z, -, rfl⟩ := Finset.mem_map.mp h
    have hz : (z 0).val < 16384 := (z 0).isLt
    have := flatQ_emb L c z
    exact Finset.mem_filter.mpr ⟨Finset.mem_univ _, by omega⟩
  · have h := (Finset.mem_filter.mp h).2
    have hn : (n 0).val - (65536 * wid L + 16384 * c.val) < 16384 := by omega
    obtain ⟨z, hz⟩ : ∃ z : S16384.Idx, (z 0).val = (n 0).val - (65536 * wid L + 16384 * c.val) := ⟨fun | 0 => ⟨_, hn⟩, rfl⟩
    refine Finset.mem_map.mpr ⟨z, Finset.mem_univ _, funext fun a => Fin.ext ?_⟩
    match a with
    | 0 => exact (flatQ_emb L c z).trans (by rw [hz]; omega)

theorem flat_quarters : (Finset.univ : Finset (Fin 4)).biUnion (fun c => (flatQ L c).view.set) = block (wid L) := by
  ext n
  refine ⟨fun h => ?_, fun h => ?_⟩
  · obtain ⟨c, -, hc⟩ := Finset.mem_biUnion.mp h
    rw [set_flatQ] at hc
    have h := (Finset.mem_filter.mp hc).2
    have := c.isLt
    exact Finset.mem_filter.mpr ⟨Finset.mem_univ _, by omega⟩
  · have h := (Finset.mem_filter.mp h).2
    refine Finset.mem_biUnion.mpr ⟨⟨(n 0).val / 16384 % 4, Nat.mod_lt _ (by omega)⟩, Finset.mem_univ _, ?_⟩
    rw [set_flatQ]
    exact Finset.mem_filter.mpr ⟨Finset.mem_univ _, by show _ = 4 * wid L + (n 0).val / 16384 % 4; omega⟩

/-- disjointly. -/
theorem flat_disjoint : ∀ c ∈ (Finset.univ : Finset (Fin 4)), ∀ c' ∈ (Finset.univ : Finset (Fin 4)), c ≠ c' →
    Disjoint (flatQ L c).view.set (flatQ L c').view.set := by
  intro c _ c' _ h
  rw [Finset.disjoint_left]
  intro n hn hn'
  rw [set_flatQ] at hn hn'
  have e := (Finset.mem_filter.mp hn).2.symm.trans (Finset.mem_filter.mp hn').2
  exact h (Fin.ext (by omega))

/-- All of `out`, by quarters; -/
theorem out_split (f : S65536.Idx → F .f32) : ((outV).view.loc (thr d L) ↦{fullShare} f : sProp 𝕄)
    = bigSep Finset.univ fun c : Fin 4 => (outV).view.loc (thr d L) ↦[quarter c.val]{fullShare} f := by
  rw [← pointsTo_biUnion Finset.univ (ℓ := (outV).view.loc (thr d L)) (fun c : Fin 4 => quarter c.val) out_disjoint, out_quarters]

/-- the worker's block of the flat output, by its quarters' places. -/
theorem flat_split (f : S2097152.Idx → F .f32) : (flatLoc d ↦[block (wid L)]{fullShare} f : sProp 𝕄)
    = bigSep Finset.univ fun c : Fin 4 => (flatQ L c).view.loc (thr d L) ↦[(flatQ L c).view.set]{fullShare} f := by
  rw [← flat_quarters]
  exact pointsTo_biUnion Finset.univ (ℓ := flatLoc d) (fun c : Fin 4 => (flatQ L c).view.set) (flat_disjoint L)

/-- A quarter of `out` and its place, at any contents, are what the quarter needs; -/
theorem blank_intro (c : Fin 4) (f : S65536.Idx → F .f32) (g : S2097152.Idx → F .f32) :
    iprop(((outV).view.loc (thr d L) ↦[quarter c.val]{fullShare} f) ∗ (flatQ L c).view.loc (thr d L) ↦[(flatQ L c).view.set]{fullShare} g)
      ⊢ (blank d L c : sProp 𝕄) := by
  unfold blank
  iintro ⟨Ho, Hf⟩
  isplitl [Ho]
  · iexists f; iexact Ho
  · iexists g; iexact Hf

/-- `out` and the block, at any contents, are what the quarters need; -/
theorem blanks (f : S65536.Idx → F .f32) (g : S2097152.Idx → F .f32) :
    iprop(((outV).view.loc (thr d L) ↦{fullShare} f) ∗ flatLoc d ↦[block (wid L)]{fullShare} g)
      ⊢ (bigSep (Transfers.pending 0) (blank d L) : sProp 𝕄) := by
  rw [out_split, flat_split, Transfers.pending_zero]
  refine (Entails.of_eq (bigSep_sep _ _ _).symm).trans (bigSep_mono fun c _ => ?_)
  exact blank_intro d L c f g

/-- what the copies bring back is the block at the output's values, and `out`. -/
theorem all_landed (X : S524288x128.Idx → F .f32) : bigSep Finset.univ (landed d L X)
    ⊢ (iprop((flatLoc d ↦[block (wid L)]{fullShare} flatOf X) ∗ (outV).view.loc (thr d L) ↦{fullShare} blockOf (myRows L X)) : sProp 𝕄) := by
  rw [out_split, flat_split]
  unfold landed
  refine (Entails.of_eq (bigSep_sep _ _ _)).trans (sep_mono_right (bigSep_mono fun c _ => ?_))
  rw [set_outQ]
  exact BI.Entails.refl _

/-! ## A worker's own buffers and semaphores -/

abbrev gatherCell : GSem nD τ sig := (thr d L, .dma cc0_scratch3.sem)
abbrev outCell : GSem nD τ sig := (thr d L, .dma cc0_scratch4.sem)

theorem ownSems0_split : (ownSems0 (thr d L) : sProp 𝕄)
    = iprop(semVal (gatherCell d L) 0 ∗ semVal (outCell d L) 0
        ∗ bigSep (((ownCells (thr d L)).erase (gatherCell d L)).erase (outCell d L)) fun g => semVal g 0) := by
  unfold SparseCore.Cfg.ownSems0
  rw [SparseCore.bigSep_erase' ((mem_ownCells (g := gatherCell d L)).mpr ⟨rfl, by
      show (SemLoc.dma cc0_scratch3.sem : SemLoc sig).isScoped .scVector = true; decide⟩),
    SparseCore.bigSep_erase' (Finset.mem_erase.mpr ⟨by simp [gatherCell, outCell]; decide, (mem_ownCells (g := outCell d L)).mpr ⟨rfl, by
      show (SemLoc.dma cc0_scratch4.sem : SemLoc sig).isScoped .scVector = true; decide⟩⟩)]

/-- A worker's buffer by its reference. -/
abbrev bufOf (b : Ref sig .scVector) : DevRef τ sig := (Proc.scVector (coreOf L) (subOf L)).devRef b

theorem bufOf_ne {a b : Ref sig .scVector} (h : a ≠ b) : bufOf L a ≠ bufOf L b := fun e => absurd (Proc.devRef_injective _ e) h

theorem ownBufs_split : (ownBufs (thr d L) : sProp 𝕄)
    = iprop((∃ f, (thr d L).loc cc0_scratch0 ↦{fullShare} f) ∗ (∃ f, (thr d L).loc cc0_scratch1 ↦{fullShare} f)
        ∗ (∃ f, (thr d L).loc cc0_scratch2 ↦{fullShare} f)
        ∗ bigSep ((((ownRefs (τ := τ) (.scVector (coreOf L) (subOf L))).erase (bufOf L cc0_scratch0)).erase (bufOf L cc0_scratch1)).erase (bufOf L cc0_scratch2))
            fun b => iprop(∃ f, ((d, b) : Loc nD τ sig) ↦{fullShare} f)) := by
  have hm : ∀ b : Ref sig .scVector, (bufOf L b).owner = .proc (Proc.scVector (coreOf L) (subOf L)) → bufOf L b ∈ ownRefs (τ := τ) (.scVector (coreOf L) (subOf L)) :=
    fun b h => mem_ownRefs_of_owner (p := Proc.scVector (coreOf L) (subOf L)) h
  unfold SparseCore.Cfg.ownBufs
  refine (SparseCore.bigSep_erase' (hm cc0_scratch0 rfl)).trans ?_
  rw [SparseCore.bigSep_erase' (Finset.mem_erase.mpr ⟨bufOf_ne L (show (cc0_scratch1 : Ref sig .scVector) ≠ cc0_scratch0 by decide), hm cc0_scratch1 rfl⟩),
    SparseCore.bigSep_erase' (Finset.mem_erase.mpr ⟨bufOf_ne L (show (cc0_scratch2 : Ref sig .scVector) ≠ cc0_scratch1 by decide),
      Finset.mem_erase.mpr ⟨bufOf_ne L (show (cc0_scratch2 : Ref sig .scVector) ≠ cc0_scratch0 by decide), hm cc0_scratch2 rfl⟩⟩)]

/-! ## The task -/

/-- The task of the worker at `L`. -/
theorem tile_body (hF : (K (F := F)).Facts) (X : S524288x128.Idx → F .f32) (O : CellTallies nD τ sig (HIx 1)) (W : Waits sig (HIx 1)) (hO : ∀ g, O g none = 0) :
    iprop(levAts (K (F := F)).L (K (F := F)).lev ∗ emp ∗ given d X (wid L)
        ∗ scopedBufs (thr d L) ∗ scopedSems0 (thr d L) ∗ owes (thr d L) O W)
      ⊢ wp frame (wpE (defs₀ (F := F)) 𝒱₀ (thr d L) none) Set.univ
          (cc0__body (F := F) L runsV (Memref.isWhole_whole _) flatV (Memref.isWhole_whole _) idxV (Memref.isWhole_whole _) rowsV (Memref.isWhole_whole _)
            outV (Memref.isWhole_whole _) cc0_scratch3 cc0_scratch4)
          fun _ => (iprop(returned d X (wid L) ∗ scopedBufs (thr d L) ∗ scopedSems0 (thr d L)
            ∗ ∃ W', ⌜∀ p ∈ W', p ∈ W ∨ p.2 = none⌝ ∗ owes (thr d L) O W') : sProp 𝕄) := by
  rw [body_eq, body_gather, (K (F := F)).scopedBufs_V hF d (coreOf L) (subOf L),
    SparseCore.Cfg.scopedSems0_V (Val := Elt F) d (coreOf L) (subOf L), ownSems0_split, ownBufs_split]
  simp only [wp_bind]
  iintro ⟨#Hlv, -, ⟨Hx, %g, Hf⟩, ⟨⟨%fi, Hi⟩, ⟨%fr, Hr⟩, ⟨%fo, Ho⟩, Hbufs⟩, ⟨HsG, HsO, Hsems⟩, HO⟩
  ihave #Hmw := (show levAts (K (F := F)).L (K (F := F)).lev ⊢ Transfers.MayWaits (thr d L) (default : HIx 1) O from
    (K (F := F)).mayWaits_none (thr := thr d L) hO) $$ Hlv
  -- the list
  iapply (wp_wand_r frame)
  isplitl [Hi]
  · iapply (wp_storeList d L _ fi (fun y h => absurd rfl (h ⟨(y 0).val / 16, by have : (y 0).val < 256 := (y 0).isLt; omega⟩ (by
      generalize (⟨(y 0).val / 16, _⟩ : Fin 16) = n
      revert n; decide)))) $$ Hi
  iintro %_ Hi
  -- the gather
  iapply (wp_wand_r frame)
  isplitl [Hx Hr Hi HsG HO]
  · iapply (wp_gather d L X fr (Transfers.shareTokN fullShare (wid L)) O W) $$ [Hx Hr Hi HsG HO]
    isplitl [Hx]; · iexact Hx
    isplitl [Hr]; · iexact Hr
    isplitl [Hi]; · iexact Hi
    isplitl [HsG]; · iexact HsG
    isplitl [HO]; · iexact HO
    iexact Hmw
  iintro %_ ⟨Hx, Hr, Hi, HsG, HO⟩
  -- the quarters
  imod (Transfers.batch_alloc' (Lvl := ℕ) countersEmb (thr d L) (default : HIx 1) units (landed d L X) (sm := .dma cc0_scratch4.sem) (E := Set.univ)) $$ HsO with HB
  iapply (wp_wand_r frame)
  isplitl [Hr Ho Hf HB]
  · iapply (wp_runQuarters d L X [0, 1, 2, 3] 0 rfl rfl) $$ [Hr Ho Hf HB]
    isplitl [Hr]; · iexact Hr
    isplitr [HB]
    · iapply (blanks d L fo g) $$ [Ho Hf]
      isplitl [Ho]; · iexact Ho
      iexact Hf
    iexact HB
  iintro %_ ⟨Hr, HB⟩
  -- the waits
  iapply (wp_wand_r frame)
  isplitl [HB HO]
  · iapply (wp_waitQuarters d L X O [0, 1, 2, 3] 0 _ rfl (List.cons_ne_nil _ _)) $$ [HB HO]
    isplitl [HB]
    · rw [Nat.zero_mul]; iexact HB
    isplitl [HO]; · iexact HO
    iexact Hmw
  iintro %_ ⟨HD, HsO, %W', %hW', HO⟩
  ihave HD' := (all_landed d L X) $$ HD
  icases HD' with ⟨Hf, Ho⟩
  isplitl [Hx Hf]
  · isplitl [Hx]; · iexact Hx
    iexact Hf
  isplitl [Hi Hr Ho Hbufs]
  · isplitl [Hi]; · iexists _; iexact Hi
    isplitl [Hr]; · iexists _; iexact Hr
    isplitl [Ho]; · iexists _; iexact Ho
    iexact Hbufs
  isplitl [HsG HsO Hsems]
  · isplitl [HsG]; · iexact HsG
    isplitl [HsO] <;> iassumption
  iexists W'
  isplitr; swap; · iexact HO
  ipureintro
  intro p hp
  rcases hW' p hp with h | h
  · rcases Finset.mem_insert.mp h with rfl | h
    · exact .inr rfl
    · exact .inl h
  · exact .inr h

end Cert.Proof

end
-- ==== Proof.Call.lean ====
/-
  The SparseCore call: worker `2 * s + c` is subcore `s` of SparseCore `c`. Each SparseCore takes what its workers are
  handed and gives back what they hand back; together the workers' parts are all of `runs` (in shares) and all of the
  flat output (in blocks).
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The payloads -/

-- what `runs` holds on each device at the call
variable (X : Dev nD → S524288x128.Idx → F .f32)

/-- Subcore `s` of SparseCore `c` is handed its worker's part and hands it back; a SparseCore takes and returns the parts
    of its sixteen. -/
def pay : (K (F := F)).Pay (nD := nD) (Val := Elt F) (Name := ℕ) (U := UU) where
  st := fun q d c => match q with | 0 => bigSep Finset.univ fun i : Fin 16 => given d (X d) (2 * i.val + c.val)
  dn := fun q d c => match q with | 0 => bigSep Finset.univ fun i : Fin 16 => returned d (X d) (2 * i.val + c.val)
  go := fun q d c i => match q with | 0 => given d (X d) (2 * i.val + c.val)
  td := fun q d c i => match q with | 0 => returned d (X d) (2 * i.val + c.val)
  x := fun _ _ => iprop(emp)

instance : (pay X).IsStorable where
  st q d c := match q with
    | 0 => (inferInstance : BI.Storable (upEmb : UEmb _ 𝕄) (bigSep Finset.univ fun i : Fin 16 => given d (X d) (2 * i.val + c.val)))
  dn q d c := match q with
    | 0 => (inferInstance : BI.Storable (upEmb : UEmb _ 𝕄) (bigSep Finset.univ fun i : Fin 16 => returned d (X d) (2 * i.val + c.val)))
  go q d c i := match q with
    | 0 => (inferInstance : BI.Storable (upEmb : UEmb _ 𝕄) (given d (X d) (2 * i.val + c.val)))
  td q d c i := match q with
    | 0 => (inferInstance : BI.Storable (upEmb : UEmb _ 𝕄) (returned d (X d) (2 * i.val + c.val)))

/-- A SparseCore's part is its workers' parts, as it stands. -/
theorem vecSplit : (K (F := F)).VecSplit' (pay X) 0 := by
  intro d c
  show (bigSep Finset.univ fun i : Fin 16 => given d (X d) (2 * i.val + c.val)) ⊢ |={Set.univ}=> iprop(
      (bigSep Finset.univ fun i : Fin 16 => given d (X d) (2 * i.val + c.val))
      ∗ ((bigSep Finset.univ fun i : Fin 16 => returned d (X d) (2 * i.val + c.val))
          -∗ bigSep Finset.univ fun i : Fin 16 => returned d (X d) (2 * i.val + c.val)))
  iintro H
  imodintro
  isplitl [H]; · iexact H
  iintro H; iexact H

/-! ## Every worker runs its task -/

/-- Subcore `s` of SparseCore `c`, as coordinates of the grid. -/
def coords (c : Fin (grid0.bound 0)) (s : Fin (grid0.bound 1)) : grid0.Coords :=
  fun | 0 => c | 1 => s | ⟨_ + 2, h⟩ => absurd h (Nat.not_lt.2 (Nat.le_add_left _ _))

/-- A subcore's program at the call: the body at its coordinates. -/
theorem body_at (c : Fin τ.nSC) (s : Fin τ.nSub) :
    defs₀ (F := F) (.scVector c s) 0 ()
      = SparseCore.onTile hcore0 hsub0 (fun c s => cc0__body (coords c s) runsV (Memref.isWhole_whole _) flatV (Memref.isWhole_whole _)
          idxV (Memref.isWhole_whole _) rowsV (Memref.isWhole_whole _) outV (Memref.isWhole_whole _) cc0_scratch3 cc0_scratch4) ⟨⟩ c s := rfl

/-- The waits a task records are allowed at the call. -/
theorem waits_allowed {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  refine sep_mono_right (sep_mono_right (sep_mono_right ?_))
  iintro ⟨%W', %h, HO⟩
  iexists W'
  isplitr [HO]
  · ipureintro; exact fun p hp => (h p hp).imp_right .inl
  · iexact HO

set_option maxRecDepth 16384 in
/-- Every subcore's program takes what the subcore is handed to what it hands back. -/
theorem tileObl (hF : (K (F := F)).Facts) : (K (F := F)).TileObl (D (F := F)) 𝒱 (pay X) v₀ 0 := by
  intro d c i O W hO _ _
  simp only [show (pay X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [body_at]
  simp only [SparseCore.onTile, hci, and_self, ↓reduceDIte]
  exact (tile_body d (coords ⟨_, hci.1⟩ ⟨_, hci.2⟩) hF (X d) O W hO).trans (wp_mono frame _ _ fun _ => waits_allowed)

/-! ## The workers' parts together -/

/-- Over the SparseCores and their subcores is over the workers. -/
theorem workers (Φ : ℕ → sProp 𝕄) :
    (bigSep Finset.univ fun c : Fin 2 => bigSep Finset.univ fun i : Fin 16 => Φ (2 * i.val + c.val)) = bigSep Finset.univ fun w : Fin 32 => Φ w.val := by
  rw [Pipeline.bigSep_univ_comm, bigSep_univ_equiv (finProdFinEquiv : Fin 16 × Fin 2 ≃ Fin (16 * 2)) (fun w => Φ w.val), bigSep_univ_prod]
  exact bigSep_congr fun i _ => bigSep_congr fun c _ => congrArg Φ (Nat.add_comm _ _)

theorem blocks_disjoint : ∀ w ∈ (Finset.univ : Finset (Fin 32)), ∀ w' ∈ (Finset.univ : Finset (Fin 32)), w ≠ w' → Disjoint (block w.val) (block w'.val) := by
  intro w _ w' _ h
  rw [Finset.disjoint_left]
  intro n hn hn'
  exact h (Fin.ext ((Finset.mem_filter.mp hn).2.symm.trans (Finset.mem_filter.mp hn').2))

theorem blocks_cover : (Finset.univ : Finset (Fin 32)).biUnion (fun w => block w.val) = Finset.univ := by
  ext n
  have h : (n 0).val < 2097152 := (n 0).isLt
  simp only [Finset.mem_biUnion, Finset.mem_univ, true_and, iff_true]
  exact ⟨⟨(n 0).val / 65536, by omega⟩, Finset.mem_filter.mpr ⟨Finset.mem_univ _, rfl⟩⟩

/-- The flat output is the workers' blocks of it. -/
theorem flat_blocks (d : Dev nD) (f : S2097152.Idx → F .f32) :
    (flatLoc d ↦{fullShare} f : sProp 𝕄) = bigSep Finset.univ fun w : Fin 32 => flatLoc d ↦[block w.val]{fullShare} f := by
  rw [← pointsTo_biUnion Finset.univ (ℓ := flatLoc d) (fun w : Fin 32 => block w.val) blocks_disjoint, blocks_cover]

/-- Blocks at `f` are blocks at some contents. -/
theorem block_any (d : Dev nD) (f : S2097152.Idx → F .f32) (w : ℕ) :
    (flatLoc d ↦[block w]{fullShare} f : sProp 𝕄) ⊢ iprop(∃ g, flatLoc d ↦[block w]{fullShare} g) := by
  iintro H
  iexists f; iexact H

theorem blocks_any (d : Dev nD) (f : S2097152.Idx → F .f32) :
    (bigSep Finset.univ fun w : Fin 32 => flatLoc d ↦[block w.val]{fullShare} f)
      ⊢ (bigSep Finset.univ fun w : Fin 32 => iprop(∃ g, flatLoc d ↦[block w.val]{fullShare} g) : sProp 𝕄) :=
  bigSep_mono fun w _ => block_any d f w.val

/-- What stays behind of `runs` while the workers hold their shares. -/
abbrev runsKept (d : Dev nD) : sProp 𝕄 := runsLoc d ↦{Transfers.shareDrop fullShare 32} X d

/-- `runs` and the flat output are what the call takes, and a share of `runs`; -/
theorem to_call (d : Dev nD) (f : S2097152.Idx → F .f32) :
    iprop((runsLoc d ↦{fullShare} X d) ∗ flatLoc d ↦{fullShare} f)
      ⊢ (iprop(runsKept X d ∗ bigSep Finset.univ fun c : Fin ((K (F := F)).nCore 0) => (pay X).st 0 d c) : sProp 𝕄) := by
  have e : (bigSep Finset.univ fun c : Fin ((K (F := F)).nCore 0) => (pay X).st 0 d c)
      = iprop((bigSep Finset.univ fun w : Fin 32 => runsShare d (X d) w.val) ∗ bigSep Finset.univ fun w : Fin 32 => iprop(∃ f, flatLoc d ↦[block w.val]{fullShare} f)) :=
    (workers fun w => given d (X d) w).trans (bigSep_sep _ _ _)
  rw [e, flat_blocks]
  iintro ⟨Hx, Hf⟩
  ihave Hx' := (Transfers.pointsTo_toks_split fullShare 32) $$ Hx
  icases Hx' with ⟨Hk, Hs⟩
  isplitl [Hk]; · iexact Hk
  isplitl [Hs]; · iexact Hs
  iapply (blocks_any d f) $$ Hf

/-- what the call returns, with that share, is `runs` as it was and the flat output at its values. -/
theorem of_call (d : Dev nD) :
    iprop(runsKept X d ∗ bigSep Finset.univ fun c : Fin ((K (F := F)).nCore 0) => (pay X).dn 0 d c)
      ⊢ (iprop((runsLoc d ↦{fullShare} X d) ∗ flatLoc d ↦{fullShare} flatOf (X d)) : sProp 𝕄) := by
  have e : (bigSep Finset.univ fun c : Fin ((K (F := F)).nCore 0) => (pay X).dn 0 d c)
      = iprop((bigSep Finset.univ fun w : Fin 32 => runsShare d (X d) w.val) ∗ bigSep Finset.univ fun w : Fin 32 => iprop(flatLoc d ↦[block w.val]{fullShare} flatOf (X d))) :=
    (workers fun w => returned d (X d) w).trans (bigSep_sep _ _ _)
  rw [e, flat_blocks]
  iintro ⟨Hk, Hs, Hf⟩
  isplitr [Hf]
  · iapply (Transfers.pointsTo_toks_join fullShare 32)
    isplitl [Hk]; · iexact Hk
    iexact Hs
  · iexact Hf

end Cert.Proof

end
-- ==== Proof.Main.lean ====
/-
  The whole program: the host re-lays `x` as `runs`, the SparseCores compute the flat output from it, the host re-lays
  that as the result. Every run ends, with the result at its value, `x` as it was, and every semaphore at zero.
-/
module

public import proofs.«01_k».proof.Proof.Call
public import Idealize.ShloMosaic.Lib.Pipeline.Frame

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.ShloMosaic.StableHlo (seq after held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host's lines -/

/-- `x` re-laid as `runs`. -/
def relaid (x : S1048576x64.Idx → F .f32) : S524288x128.Idx → F .f32 :=
  shapeCast S524288x128 (transpose S8x8192x8x128 [0, 2, 1, 3]
    (shapeCast S8x8x8192x128 (transpose S64x1048576 [1, 0] x transposes_S1048576x64_S64x1048576_1_0) shapeCasts_S64x1048576_S8x8x8192x128)
    transposes_S8x8x8192x128_S8x8192x8x128_0_2_1_3) shapeCasts_S8x8192x8x128_S524288x128

/-- The flat output re-laid as the result. -/
def unlaid (f : S2097152.Idx → F .f32) : S1048576x2.Idx → F .f32 :=
  shapeCast S1048576x2 (transpose S8192x128x2 [0, 2, 1] (shapeCast S8192x2x128 f shapeCasts_S2097152_S8192x2x128)
    transposes_S8192x2x128_S8192x128x2_0_2_1) shapeCasts_S8192x128x2_S1048576x2

/-- The host's operations before the call -/
abbrev before : List (HloOp τ sig (Elt F)) :=
  [ StableHlo.unary main_arg0 main_v0 ((transpose S64x1048576 [1, 0] · transposes_S1048576x64_S64x1048576_1_0) : (⟨S1048576x64, .f32⟩ : BufTy).Contents (Elt F) → (⟨S64x1048576, .f32⟩ : BufTy).Contents (Elt F)),
    StableHlo.reshape main_v0 main_v1 (rfl : (.f32 : EltTy) = .f32) shapeCasts_S64x1048576_S8x8x8192x128,
    StableHlo.unary main_v1 main_v2 ((transpose S8x8192x8x128 [0, 2, 1, 3] · transposes_S8x8x8192x128_S8x8192x8x128_0_2_1_3) : (⟨S8x8x8192x128, .f32⟩ : BufTy).Contents (Elt F) → (⟨S8x8192x8x128, .f32⟩ : BufTy).Contents (Elt F)),
    StableHlo.reshape main_v2 main_v3 (rfl : (.f32 : EltTy) = .f32) shapeCasts_S8x8192x8x128_S524288x128 ]

/-- and after it. -/
abbrev later : List (HloOp τ sig (Elt F)) :=
  [ StableHlo.reshape main_v4 main_v5 (rfl : (.f32 : EltTy) = .f32) shapeCasts_S2097152_S8192x2x128,
    StableHlo.unary main_v5 main_v6 ((transpose S8192x128x2 [0, 2, 1] · transposes_S8192x2x128_S8192x128x2_0_2_1) : (⟨S8192x2x128, .f32⟩ : BufTy).Contents (Elt F) → (⟨S8192x128x2, .f32⟩ : BufTy).Contents (Elt F)),
    StableHlo.reshape main_v6 main_v7 (rfl : (.f32 : EltTy) = .f32) shapeCasts_S8192x128x2_S1048576x2 ]

theorem main_eq (d : Dev nD) :
    main (F := F) d = seq before >>= fun _ => (K (F := F)).run d 0 >>= fun _ => seq later >>= fun _ => pure ⟨⟩ := rfl

theorem before_fresh : ∀ op ∈ (before : List (HloOp τ sig (Elt F))), op.fresh = ∅ := by
  intro op h
  simp only [List.mem_cons, List.not_mem_nil, or_false] at h
  rcases h with rfl | rfl | rfl | rfl <;> rfl

theorem later_fresh : ∀ op ∈ (later : List (HloOp τ sig (Elt F))), op.fresh = ∅ := by
  intro op h
  simp only [List.mem_cons, List.not_mem_nil, or_false] at h
  rcases h with rfl | rfl | rfl <;> rfl

/-- The TensorCore's arrays. -/
abbrev arrays : Finset (DevRef τ sig) := Pipeline.ucRefs τ sig

theorem before_sub : ∀ op ∈ (before : List (HloOp τ sig (Elt F))), op.bufs ⊆ arrays := by
  intro op h
  refine Pipeline.sub_ucRefs op ?_
  simp only [List.mem_cons, List.not_mem_nil, or_false] at h
  rcases h with rfl | rfl | rfl | rfl
  exacts [StableHlo.unary_bufs_sub .., StableHlo.reshape_bufs_sub .., StableHlo.unary_bufs_sub .., StableHlo.reshape_bufs_sub ..]

theorem later_sub : ∀ op ∈ (later : List (HloOp τ sig (Elt F))), op.bufs ⊆ arrays := by
  intro op h
  refine Pipeline.sub_ucRefs op ?_
  simp only [List.mem_cons, List.not_mem_nil, or_false] at h
  rcases h with rfl | rfl | rfl
  exacts [StableHlo.reshape_bufs_sub .., StableHlo.unary_bufs_sub .., StableHlo.reshape_bufs_sub ..]

/-! ## What the arrays hold -/

/-- A TensorCore array, as a buffer of the device. -/
abbrev arr (b : Ref sig .tc) : DevRef τ sig := Proc.devRef .tc b

theorem arr_ne {a b : Ref sig .tc} (h : a ≠ b) : arr a ≠ arr b := StableHlo.devRef_ne_of_ne h

theorem arr_mem {b : Ref sig .tc} (h : b.isScoped = false) : arr b ∈ arrays :=
  Finset.mem_filter.mpr ⟨StableHlo.devRef_mem_tcRefs b, by
    show ¬ (arr b).isScoped = true
    rw [show (arr b).isScoped = b.isScoped from rfl, h]; exact Bool.false_ne_true⟩

/-- Two of the arrays, apart from the rest. -/
theorem held_two (d : Dev nD) {a b : Ref sig .tc} (ha : a.isScoped = false) (hb : b.isScoped = false) (h : b ≠ a) (W : Valuation τ sig (Elt F)) :
    (held (SparseCore.T d) arrays W : sProp 𝕄)
      = iprop((((SparseCore.T d).loc a : Loc nD τ sig) ↦{fullShare} W (arr a)) ∗ (((SparseCore.T d).loc b : Loc nD τ sig) ↦{fullShare} W (arr b))
          ∗ held (SparseCore.T d) ((arrays.erase (arr a)).erase (arr b)) W) := by
  unfold held
  rw [SparseCore.bigSep_erase' (arr_mem ha), SparseCore.bigSep_erase' (Finset.mem_erase.mpr ⟨arr_ne h, arr_mem hb⟩)]

variable (m : (ℓ : Loc nD τ sig) → Buf (Elt F) ℓ) (ρ : Dev nD → PrngReg)

/-- `x` on device `d`. -/
abbrev xOf (d : Dev nD) : S1048576x64.Idx → F .f32 := m ((SparseCore.T d).loc main_arg0)

/-- The contents at the launch, -/
def atLaunch (d : Dev nD) : Valuation τ sig (Elt F) := fun b => m (d, b)
/-- at the call, -/
def atCall (d : Dev nD) : Valuation τ sig (Elt F) := after before (atLaunch m d)
/-- after it, -/
def called (d : Dev nD) : Valuation τ sig (Elt F) := Function.update (atCall m d) (arr main_v4) (flatOf (relaid (xOf m d)))
/-- and at the end. -/
def atEnd (d : Dev nD) : Valuation τ sig (Elt F) := after later (called m d)

theorem atCall_runs (d : Dev nD) : atCall m d (arr main_v3) = relaid (xOf m d) := by
  unfold atCall
  after_results
  rfl

theorem atCall_x (d : Dev nD) : atCall m d (arr main_arg0) = xOf m d := by
  unfold atCall
  after_results
  rfl

theorem called_runs (d : Dev nD) : called m d (arr main_v3) = relaid (xOf m d) :=
  (Function.update_of_ne (arr_ne (by decide)) _ _).trans (atCall_runs m d)

theorem called_flat (d : Dev nD) : called m d (arr main_v4) = flatOf (relaid (xOf m d)) := Function.update_self _ _ _

theorem called_x (d : Dev nD) : called m d (arr main_arg0) = xOf m d :=
  (Function.update_of_ne (arr_ne (by decide)) _ _).trans (atCall_x m d)

theorem atEnd_x (d : Dev nD) : atEnd m d (arr main_arg0) = xOf m d := by
  unfold atEnd
  after_results
  exact called_x m d

/-- The result: re-laid from the flat output of `x` re-laid. -/
def result (x : S1048576x64.Idx → F .f32) : S1048576x2.Idx → F .f32 := unlaid (flatOf (relaid x))

theorem atEnd_result (d : Dev nD) : atEnd m d (arr main_v7) = result (xOf m d) := by
  unfold atEnd
  after_results
  rw [called_flat]
  rfl

/-- What the call does not touch is the same before and after it. -/
theorem rest_called (d : Dev nD) :
    (held (SparseCore.T d) ((arrays.erase (arr main_v3)).erase (arr main_v4)) (called m d) : sProp 𝕄)
      = held (SparseCore.T d) ((arrays.erase (arr main_v3)).erase (arr main_v4)) (atCall m d) :=
  bigSep_congr fun b hb => by
    rw [called, Function.update_of_ne (Finset.ne_of_mem_erase hb)]

/-! ## The TensorCore's program -/

/-- What `runs` holds on each device at the call. -/
abbrev runsOf (d : Dev nD) : S524288x128.Idx → F .f32 := relaid (xOf m d)

/-- At the call the arrays are what the call takes and the rest; -/
theorem call_in (d : Dev nD) : (held d.tc arrays (after before (atLaunch m d)) : sProp 𝕄)
    ⊢ iprop((runsKept (runsOf m) d ∗ bigSep Finset.univ fun c : Fin ((K (F := F)).nCore 0) => (pay (runsOf m)).st 0 d c)
        ∗ held (SparseCore.T d) ((arrays.erase (arr main_v3)).erase (arr main_v4)) (atCall m d)) := by
  show held (SparseCore.T d) arrays (atCall m d) ⊢ _
  rw [held_two d (a := main_v3) (b := main_v4) rfl rfl (by decide), atCall_runs]
  iintro ⟨Hx, Hf, Hrest⟩
  isplitr [Hrest]
  · iapply (to_call (runsOf m) d (atCall m d (arr main_v4)))
    isplitl [Hx]; · iexact Hx
    iexact Hf
  · iexact Hrest

/-- and what the call returns, with the rest, is the arrays after it. -/
theorem call_out (d : Dev nD) :
    iprop((runsKept (runsOf m) d ∗ bigSep Finset.univ fun c : Fin ((K (F := F)).nCore 0) => (pay (runsOf m)).dn 0 d c)
        ∗ held (SparseCore.T d) ((arrays.erase (arr main_v3)).erase (arr main_v4)) (atCall m d))
      ⊢ (held (SparseCore.T d) arrays (called m d) : sProp 𝕄) := by
  rw [held_two d (a := main_v3) (b := main_v4) rfl rfl (by decide), called_runs, called_flat, rest_called]
  exact (sep_mono_left (of_call (runsOf m) d)).trans sep_assoc.1

/-- What the end keeps: `x`, and the result at its value. -/
abbrev kept (d : Dev nD) : sProp 𝕄 :=
  iprop((((SparseCore.T d).loc main_arg0 : Loc nD τ sig) ↦{fullShare} xOf m d) ∗ (((SparseCore.T d).loc main_v7 : Loc nD τ sig) ↦{fullShare} result (xOf m d)))

theorem end_kept (d : Dev nD) : (held d.tc arrays (after later (called m d)) : sProp 𝕄) ⊢ kept m d := by
  show held (SparseCore.T d) arrays (atEnd m d) ⊢ _
  rw [held_two d (a := main_arg0) (b := main_v7) rfl rfl (by decide), atEnd_x, atEnd_result]
  iintro ⟨Hx, Hy, -⟩
  isplitl [Hx] <;> iassumption

/-- The TensorCore's program, from what the launch deals it. -/
theorem wp_main (κ : GSem nD τ sig → ℕ) (d : Dev nD) :
    iprop((K (F := F)).ctx EH (pay (runsOf m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ kept m d ∗ (K (F := F)).tcEnd d) := by
  unfold SparseCore.Cfg.tcRes SparseCore.Cfg.tcEnd
  rw [show (unscopedBufs d (fun b => m ((SparseCore.T d).loc b)) : sProp 𝕄) = held (SparseCore.T d) arrays (atLaunch m d) from
    Pipeline.unscopedBufs_held d (atLaunch m d), main_eq]
  iintro ⟨#Hctx, Hst, ⟨Hb, Hheld, Hts, -⟩, -⟩
  iapply (StableHlo.wp_seq 𝒱 none Set.univ d arrays _ before before_sub before_fresh (atLaunch m d)) $$ [Hb Hheld]
  · isplitl [Hb] <;> iassumption
  iintro ⟨Hb, Hheld⟩
  ihave Hc := (call_in m d) $$ Hheld
  icases Hc with ⟨⟨Hk, Hc⟩, Hrest⟩
  rw [wp_bind]
  iapply ((K (F := F)).wp_run (D (F := F)) 𝒱 (EH := EH) (P := pay (runsOf m)) κ d 0) $$ [Hst Hc Hk Hrest Hb Hts]
  isplitr; · iexact Hctx
  isplitl [Hst]; · iexact Hst
  isplitl [Hc]; · iexact Hc
  iintro ⟨Hst, Hc⟩
  ihave Hheld := (call_out m d) $$ [Hk Hc Hrest]
  · isplitr [Hrest]
    · isplitl [Hk] <;> iassumption
    · iexact Hrest
  iapply (StableHlo.wp_seq 𝒱 none Set.univ d arrays _ later later_sub later_fresh (called m d)) $$ [Hb Hheld]
  · isplitl [Hb] <;> iassumption
  iintro ⟨Hb, Hheld⟩
  rw [wp_pure]
  imodintro
  isplitl [Hst]; · iexact Hst
  isplitl [Hheld]
  · iapply (end_kept m d) $$ Hheld
  isplitl [Hb] <;> iassumption

/-! ## The run -/

/-- The ghost state at the launch: the handshakes' rounds. -/
def u₀ : UU := (initOf (K (F := F)).hsCells (K (F := F)).hsToks, 1)

theorem launched (X : Dev nD → S524288x128.Idx → F .f32) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (pay X).x q t) := by
  have e : (bigSep Finset.univ fun t : Thread nD τ => bigSep Finset.univ fun q : Fin 1 => (pay X).x q t) = (iprop(emp) : sProp 𝕄) :=
    (bigSep_congr fun _ _ => bigSep_univ_of_subsingleton (0 : Fin 1)).trans (bigSep_emp_const _)
  have e₀ : (bigSep Finset.univ fun _ : Dev nD => iprop(emp)) = (iprop(emp) : sProp 𝕄) := bigSep_emp_const _
  rw [e, e₀]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-- What is read off the final memory of device `d`. -/
def Ends (d : Dev nD) (μ : (ℓ : Loc nD τ sig) → Buf (Elt F) ℓ) : Prop :=
  μ ((SparseCore.T d).loc main_arg0) = m ((SparseCore.T d).loc main_arg0) ∧ μ ((SparseCore.T d).loc main_v7) = result (xOf m d)

/-- Whoever holds a whole array knows what the memory has there. -/
theorem read_whole (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr [HSI]
  · ipureintro; exact funext fun i => h i (Finset.mem_univ i)
  · iexact HSI

theorem read_kept (d : Dev nD) (s' : Phys nD τ sig (Elt F)) : iprop(kept m d ∗ SI s') ⊢ (⌜Ends m d s'.mem.mem⌝ : sProp 𝕄) := by
  iintro ⟨⟨Hx, Hy⟩, HSI⟩
  ihave H := (read_whole s' _ _) $$ [Hx HSI]
  · isplitl [Hx] <;> iassumption
  icases H with ⟨%hx, HSI⟩
  ihave H := (read_whole s' _ _) $$ [Hy HSI]
  · isplitl [Hy] <;> iassumption
  icases H with ⟨%hy, -⟩
  ipureintro; exact ⟨hx, hy⟩

/-- Every run of the program, over any floats, ends: `x` as it was, the result at its value, every semaphore at zero. -/
theorem run_main [∀ e, Nonempty (Elt F e)] :
    θ_run (Cert.KernelIdeal.defs (F := F)) (Cert.KernelIdeal.threads (F := F)) ⟨m, fun _ => 0, ρ⟩
      fun r => (∀ d : Dev nD, Ends m d r.2.mem) ∧ r.2.sem = fun _ => 0 :=
  SparseCore.Cfg.θ_run_sc_quiescent (K := K (F := F)) (D := D (F := F)) (𝒱 := 𝒱) (EH := EH) (P := pay (runsOf m)) (A := ∅) facts v₀
    (fun q hq => match q with | 0 => nomatch hq)
    (fun q _ => match q with | 0 => tileObl (runsOf m) facts)
    (fun q _ => match q with | 0 => SparseCore.Cfg.VecSplit.of_plain (vecSplit (runsOf m)))
    m ρ main (fun _ => iprop(emp)) (kept m) (u₀ (F := F)) (sep_elim_left.trans (launched (runsOf m))) (wp_main m ρ)
    (fun d s' => Ends m d s'.mem.mem) (read_kept m) _ (fun _ h hz => ⟨h, hz⟩)

end Cert.Proof

end
-- ==== Proof.Value.lean ====
/-
  The result, element by element: row `n` of it is `hi` and `lo` of `x`'s entry at row `n` and column 63.
-/
module

public import proofs.«01_k».proof.Proof.Main
public import Idealize.ShloMosaic.Lib.Pipeline.Value

@[expose] public section

noncomputable section

namespace Cert.Proof

open Cert.KernelIdeal Cert.KernelIdeal.Gen
open Idealize.ShloMosaic

variable {F : FTy → Type} [FloatOps F]

/-- The entry of `x` at row `n` and column 63. -/
def cell (n : ℕ) (h : n < 1048576) : S1048576x64.Idx := fun | 0 => ⟨n, h⟩ | 1 => ⟨63, by decide⟩

/-- Element `n` of the flat output. -/
def flatIx (n : ℕ) (h : n < 2097152) : S2097152.Idx := fun | 0 => ⟨n, h⟩

/-- The result at row `i 0` and column `i 1` comes from the flat output's run `i 0 / 128`, its half `i 1`, its lane `i 0 % 128`. -/
theorem unlaid_apply (f : S2097152.Idx → F .f32) (i : S1048576x2.Idx) (n : ℕ) (hn : n < 2097152)
    (e : n = 256 * ((i 0).val / 128) + 128 * (i 1).val + (i 0).val % 128) : unlaid f i = f (flatIx n hn) := by
  have h0 : (i 0).val < 1048576 := (i 0).isLt
  have h1 : (i 1).val < 2 := (i 1).isLt
  unfold unlaid
  let k : S8192x128x2.Idx := fun | 0 => ⟨(i 0).val / 128, by show _ < 8192; omega⟩ | 1 => ⟨(i 0).val % 128, by show _ < 128; omega⟩ | 2 => ⟨(i 1).val, h1⟩
  let k' : S8192x2x128.Idx := fun | 0 => ⟨(i 0).val / 128, by show _ < 8192; omega⟩ | 1 => ⟨(i 1).val, h1⟩ | 2 => ⟨(i 0).val % 128, by show _ < 128; omega⟩
  refine (shapeCast_apply _ _ i k ?_).trans ((transpose_apply _ _ _ k k' fun b => ?_).trans (shapeCast_apply _ _ k' _ ?_))
  · refine (Shape.rowMajor_val_three (d := ![8192, 128, 2]) k).trans (Eq.trans ?_ (Shape.rowMajor_val_two (d := ![1048576, 2]) i).symm)
    show ((i 0).val / 128 * 128 + (i 0).val % 128) * 2 + (i 1).val = (i 0).val * 2 + (i 1).val
    omega
  · match b with
    | 0 => rfl
    | 1 => rfl
    | 2 => rfl
  · refine (Shape.rowMajor_val_one (d := ![2097152]) _).trans (Eq.trans ?_ (Shape.rowMajor_val_three (d := ![8192, 2, 128]) k').symm)
    show n = ((i 0).val / 128 * 2 + (i 1).val) * 128 + (i 0).val % 128
    omega

/-- Run `458759 + 8 * J` of the re-laid `x` is column 63 of `x`'s rows from `128 * J` on. -/
theorem relaid_apply (x : S1048576x64.Idx → F .f32) (R J l : ℕ) (hR : R < 524288) (hl : l < 128) (e : R = 458759 + 8 * J) :
    relaid x (runLane R l hR hl) = x (cell (128 * J + l) (by omega)) := by
  subst e
  unfold relaid
  have hJ : J < 8192 := by omega
  let k : S8x8192x8x128.Idx := fun | 0 => ⟨7, by decide⟩ | 1 => ⟨J, hJ⟩ | 2 => ⟨7, by decide⟩ | 3 => ⟨l, hl⟩
  let k' : S8x8x8192x128.Idx := fun | 0 => ⟨7, by decide⟩ | 1 => ⟨7, by decide⟩ | 2 => ⟨J, hJ⟩ | 3 => ⟨l, hl⟩
  let k'' : S64x1048576.Idx := fun | 0 => ⟨63, by decide⟩ | 1 => ⟨128 * J + l, by show _ < 1048576; omega⟩
  refine (shapeCast_apply _ _ _ k ?_).trans ((transpose_apply _ _ _ k k' fun b => ?_).trans ((shapeCast_apply _ _ k' k'' ?_).trans
    (transpose_apply _ _ _ k'' _ fun b => ?_)))
  · refine (Shape.rowMajor_val_four (d := ![8, 8192, 8, 128]) k).trans (Eq.trans ?_ (Shape.rowMajor_val_two (d := ![524288, 128]) _).symm)
    show ((7 * 8192 + J) * 8 + 7) * 128 + l = (458759 + 8 * J) * 128 + l
    omega
  · match b with
    | 0 => rfl
    | 1 => rfl
    | 2 => rfl
    | 3 => rfl
  · refine (Shape.rowMajor_val_two (d := ![64, 1048576]) k'').trans (Eq.trans ?_ (Shape.rowMajor_val_four (d := ![8, 8, 8192, 128]) k').symm)
    show 63 * 1048576 + (128 * J + l) = ((7 * 8 + 7) * 8192 + J) * 128 + l
    omega
  · match b with
    | 0 => rfl
    | 1 => rfl

/-- The flat output's element `n`, the run and the lane it reads named. -/
theorem flatOf_at (X : S524288x128.Idx → F .f32) (n R l : ℕ) (hn : n < 2097152) (hR : R < 524288) (hl : l < 128)
    (eR : R = rowNo (n / 65536) (n % 65536 / 256)) (el : l = n % 65536 % 128) :
    flatOf X (flatIx n hn) = if n % 65536 % 256 < 128 then hi (X (runLane R l hR hl)) else lo (X (runLane R l hR hl)) := by
  subst eR; subst el; rfl

/-- The result, element by element. -/
theorem result_apply (x : S1048576x64.Idx → F .f32) (i : S1048576x2.Idx) :
    result x i = if (i 1).val = 0 then hi (x (cell (i 0).val (i 0).isLt)) else lo (x (cell (i 0).val (i 0).isLt)) := by
  have h0 : (i 0).val < 1048576 := (i 0).isLt
  have h1 : (i 1).val < 2 := (i 1).isLt
  unfold result
  obtain ⟨n, e⟩ : ∃ n, n = 256 * ((i 0).val / 128) + 128 * (i 1).val + (i 0).val % 128 := ⟨_, rfl⟩
  have hn : n < 2097152 := by omega
  rw [unlaid_apply _ i n hn e]
  rw [flatOf_at _ n (458759 + 8 * ((i 0).val / 128)) ((i 0).val % 128) hn (by omega) (by omega) (by unfold rowNo; omega) (by omega),
    relaid_apply x _ ((i 0).val / 128) _ _ _ rfl]
  have ec : ∀ h, cell (128 * ((i 0).val / 128) + (i 0).val % 128) h = cell (i 0).val h0 := by
    rw [Nat.div_add_mod]; exact fun _ => rfl
  rw [ec]
  by_cases hb : (i 1).val = 0
  · rw [if_pos hb, if_pos (by omega)]
  · rw [if_neg hb, if_neg (by omega)]

end Cert.Proof

end
-- ==== Proof.Reference.lean ====
/-
  The reference's result, element by element: column 0 marks the rows whose last entry is at least one half, column 1 the rows
  whose last entry is below it. Over the extended reals this is the kernel's result.
-/
module

public import proofs.«01_k».proof.Proof.Value
public import proofs.«01_k».proof.Proof.Gen.ReferenceIdeal
public import Idealize.ShloMosaic.Lib.Routing.OpsOne
public import Idealize.ShloMosaic.Lib.IdealHost
public import Idealize.ShloMosaic.Lib.Pointwise.Tactic

@[expose] public section

noncomputable section

namespace Cert.Proof

open Cert.ReferenceIdeal Cert.ReferenceIdeal.Gen
open Idealize.ShloMosaic Idealize.ShloMosaic.Routing

/-- Writing a vector over column `k` of a matrix: column `k` reads the vector, every other column what was there. -/
theorem write_column {α : Type} {A N : ℕ} (d : ScatterDims (shape2 A N) (shape1 1) (shape1 A)) (hiw : d.insertedWindowDims = [1])
    (hsd : d.scatterDimsToOperandDims = [1]) (x0 : (shape2 A N).Idx → α) (idx : IVec (shape1 1) 32) (upd : (shape1 A).Idx → α)
    (k : Fin N) (hidx : (idx (ValueIdx.ix1 0)).toInt = (k.val : Int)) (w : Fin A) (e : Fin N) :
    Host.scatter d (fun _ b => b) x0 idx upd (ValueIdx.ix2 w e) = if e = k then upd (ValueIdx.ix1 w) else x0 (ValueIdx.ix2 w e) := by
  have at_row : ∀ j, d.resultIdx? j idx = some (ValueIdx.ix2 w e) → j = ValueIdx.ix1 w ∧ e = k := by
    intro j hj
    rw [ValueIdx.eq_ix1 j] at hj ⊢
    obtain ⟨h, hk⟩ := (lands_col d hiw hsd idx k hidx _ w e).1 hj
    exact ⟨congrArg ValueIdx.ix1 h, hk⟩
  split
  · next h => exact scatter_set_hit d x0 idx upd _ _ (fun j hj => by rw [(at_row j hj).1]) _ ((lands_col d hiw hsd idx k hidx w w e).2 ⟨rfl, h⟩)
  · next h => exact scatter_set_miss d x0 idx upd _ fun j hj => h (at_row j hj).2

variable {F : FTy → Type} [FloatOps F]

/-- Column 63 of `x`, as the reference takes it. -/
def lastCol (x : S1048576x64.Idx → F .f32) : S1048576.Idx → F .f32 :=
  shapeCast S1048576 (extractStridedSlice S1048576x1 ![0, 63] x slices_S1048576x64_S1048576x1_0_63) shapeCasts_S1048576x1_S1048576

/-- One literal, in every row. -/
def rows (b : BitVec 32) : S1048576.Idx → F .f32 := broadcastInDim S1048576 ![] bcast_S_S1048576 (constant S_ .f32 b)

/-- The reference's zeros. -/
def zeros : S1048576x2.Idx → F .f32 := broadcastInDim S1048576x2 ![] bcast_S_S1048576x2 (constant S_ .f32 0x00000000#32)

/-- One where the last column compares with one half as `p` says, else what `rest` holds. -/
def marked (p : CmpFPredicate) (x : S1048576x64.Idx → F .f32) (rest : S1048576.Idx → F .f32) : S1048576.Idx → F .f32 :=
  select (cmpf p (lastCol x) (rows 0x3F000000#32)) (rows 0x3F800000#32) rest

/-- `a` with `u` written over the column numbered `k`. -/
def setCol (a : S1048576x2.Idx → F .f32) (k : BitVec 32) (u : S1048576.Idx → F .f32) : S1048576x2.Idx → F .f32 :=
  Host.scatter scatter_S1048576x2_S1_S1048576_0_1_1_0 (fun _ b => b) a (broadcastInDim S1 ![] bcast_S_S1 (constantI S_ 32 k)) u

/-- The reference after its first column. -/
def refFirst (x : S1048576x64.Idx → F .f32) : S1048576x2.Idx → F .f32 :=
  setCol zeros 0#32 (marked .oge x
    (shapeCast S1048576 (extractStridedSlice S1048576x1 ![0, 0] zeros slices_S1048576x2_S1048576x1_0_0) shapeCasts_S1048576x1_S1048576))

/-- The reference's result. -/
def refResult (x : S1048576x64.Idx → F .f32) : S1048576x2.Idx → F .f32 :=
  setCol (refFirst x) 1#32 (marked .olt x
    (shapeCast S1048576 (extractStridedSlice S1048576x1 ![0, 1] (refFirst x) slices_S1048576x2_S1048576x1_0_1) shapeCasts_S1048576x1_S1048576))

/-- `setCol`, element by element. -/
theorem setCol_apply (a : S1048576x2.Idx → F .f32) (k : BitVec 32) (e' : Fin 2) (hk : k.toInt = (e'.val : Int)) (u : S1048576.Idx → F .f32)
    (n : Fin 1048576) (e : Fin 2) : setCol a k u (ValueIdx.ix2 n e) = if e = e' then u (ValueIdx.ix1 n) else a (ValueIdx.ix2 n e) :=
  write_column scatter_S1048576x2_S1_S1048576_0_1_1_0 rfl rfl a _ u e' hk n e

/-- A column of a matrix, taken as a vector, element by element. -/
theorem column_apply {C : ℕ} (a : (shape2 1048576 C).Idx → F .f32) (k : Fin C) (K : ℕ) (eK : K = k.val)
    (h : (shape2 1048576 C).Slices ![0, K] S1048576x1) (n : Fin 1048576) :
    shapeCast S1048576 (extractStridedSlice S1048576x1 ![0, K] a h) shapeCasts_S1048576x1_S1048576 (ValueIdx.ix1 n) = a (ValueIdx.ix2 n k) := by
  refine (shapeCast_apply _ _ (ValueIdx.ix1 n) (ValueIdx.ix2 n (0 : Fin 1)) ?_).trans (extractStridedSlice_apply _ _ _ _ _ fun b => ?_)
  · refine (Shape.rowMajor_val_two (d := ![1048576, 1]) _).trans (Eq.trans ?_ (Shape.rowMajor_val_one (d := ![1048576]) _).symm)
    show n.val * 1 + 0 = n.val
    omega
  · match b with
    | 0 => show n.val = 0 + n.val; omega
    | 1 => show k.val = K + 0; omega

/-- One where `v` compares with one half as `p` says, else zero. -/
def mark (p : CmpFPredicate) (v : F .f32) : F .f32 :=
  Scalar.select (FloatOps.cmpf p v (Scalar.ofBits .f32 0x3F000000#32)) (Scalar.ofBits .f32 0x3F800000#32) (Scalar.ofBits .f32 0x00000000#32)

/-- `marked`, at a row where `rest` is zero. -/
theorem marked_apply (p : CmpFPredicate) (x : S1048576x64.Idx → F .f32) (rest : S1048576.Idx → F .f32) (n : Fin 1048576)
    (h : rest (ValueIdx.ix1 n) = Scalar.ofBits .f32 0x00000000#32) : marked p x rest (ValueIdx.ix1 n) = mark p (x (cell n.val n.isLt)) := by
  have e : lastCol x (ValueIdx.ix1 n) = x (cell n.val n.isLt) := by
    refine (column_apply (C := 64) x 63 63 rfl slices_S1048576x64_S1048576x1_0_63 n).trans (congrArg x (funext fun b => ?_))
    match b with
    | 0 => rfl
    | 1 => rfl
  show Scalar.select (FloatOps.cmpf p (lastCol x (ValueIdx.ix1 n)) _) _ (rest (ValueIdx.ix1 n)) = _
  rw [e, h]; rfl

/-- The first column is marked, the second still zero. -/
theorem refFirst_apply (x : S1048576x64.Idx → F .f32) (n : Fin 1048576) (e : Fin 2) :
    refFirst x (ValueIdx.ix2 n e) = if e = 0 then mark .oge (x (cell n.val n.isLt)) else Scalar.ofBits .f32 0x00000000#32 := by
  unfold refFirst
  rw [setCol_apply _ 0#32 0 rfl, marked_apply _ _ _ _ (column_apply (C := 2) zeros 0 0 rfl slices_S1048576x2_S1048576x1_0_0 n)]
  rfl

/-- The reference's result, element by element. -/
theorem refResult_apply (x : S1048576x64.Idx → F .f32) (n : Fin 1048576) (e : Fin 2) :
    refResult x (ValueIdx.ix2 n e) = if e = 1 then mark .olt (x (cell n.val n.isLt)) else mark .oge (x (cell n.val n.isLt)) := by
  unfold refResult
  rw [setCol_apply _ 1#32 1 rfl, marked_apply _ _ _ _
    ((column_apply (C := 2) (refFirst x) 1 1 rfl slices_S1048576x2_S1048576x1_0_1 n).trans ((refFirst_apply x n 1).trans (if_neg (by decide)))), refFirst_apply]
  match e with
  | 0 => rfl
  | 1 => rfl

/-- Over the extended reals one minus the mark of "at least one half" is the mark of "below one half". -/
theorem lo_eq_mark (v : Ideal .f32) : lo v = mark .olt v := by
  have h1 : (Scalar.ofBits .f32 0x3F800000#32 : Ideal .f32) = (1 : EReal) := Ideal.ofBits_one_f32
  have h0 : (Scalar.ofBits .f32 0x00000000#32 : Ideal .f32) = (0 : EReal) := Ideal.ofBits_zero .f32
  unfold lo hi mark
  rw [h1, h0]
  generalize (Scalar.ofBits .f32 0x3F000000#32 : Ideal .f32) = t
  show (1 : EReal) - Scalar.select (BitVec.ofBool (decide ((t : EReal) ≤ v))) (1 : EReal) 0 = Scalar.select (BitVec.ofBool (decide ((v : EReal) < t))) (1 : EReal) 0
  by_cases h : (t : EReal) ≤ v
  · rw [decide_eq_true h, decide_eq_false (not_lt.2 h)]
    show (1 : EReal) - 1 = 0
    exact EReal.sub_self (by decide) (by decide)
  · rw [decide_eq_false h, decide_eq_true (not_le.1 h)]
    show (1 : EReal) - 0 = 1
    exact sub_zero _

/-- Over the extended reals the kernel and the reference have one result. -/
theorem result_eq (x : S1048576x64.Idx → Ideal .f32) : refResult x = result x := by
  funext i
  obtain ⟨n, e, rfl⟩ : ∃ (n : Fin 1048576) (e : Fin 2), i = ValueIdx.ix2 n e := ⟨i 0, i 1, ValueIdx.eq_ix2 i⟩
  rw [refResult_apply, result_apply]
  match e with
  | 0 => rfl
  | 1 => exact (lo_eq_mark _).symm

end Cert.Proof

end
-- ==== Proof.lean ====
/-
  The claims of this certificate: the kernel, and the kernel and the reference read over the extended reals, run to their ends
  with their argument unchanged and every semaphore at zero; and over the extended reals the kernel and the reference have
  one result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Main
public import proofs.«01_k».proof.Proof.Reference
public import Idealize.ShloMosaic.Lib.Quiescent

@[expose] public section

noncomputable section

namespace Cert.Proof

open Idealize.ShloMosaic Idealize.SL.Sem

/-- The kernel, over machine floats, ends with `x` unchanged and every semaphore at zero: its text is the idealized kernel's. -/
theorem frame_kernel : Cert.quiescent_Kernel := fun m ρ _ =>
  (θ_run Cert.KernelIdeal.defs _ _).mono (fun _ h => ⟨fun c => (h.1 c).1, h.2⟩) (run_main (F := Bits) m ρ)

/-- The idealized kernel ends with `x` unchanged and every semaphore at zero. -/
theorem frame_kernelIdeal : Cert.quiescent_KernelIdeal := fun m ρ _ =>
  (θ_run Cert.KernelIdeal.defs _ _).mono (fun _ h => ⟨fun c => (h.1 c).1, h.2⟩) (run_main (F := Ideal) m ρ)

/-- The idealized reference ends with `x` unchanged; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From one `x`, the idealized kernel and the idealized reference end with one result. -/
theorem one_result : Cert.algebraic_KernelIdeal_ReferenceIdeal := by
  intro m ρ m' ρ' _ agree
  refine ⟨fun c => result (xOf m c), (θ_run Cert.KernelIdeal.defs _ _).mono (fun _ h c => ⟨(h.1 c).2, (h.1 c).1⟩) (run_main (F := Ideal) m ρ),
    (θ_run Cert.ReferenceIdeal.defs _ _).mono (fun _ h c => ⟨(h c).1.trans ?_, (h c).2⟩) (Cert.ReferenceIdeal.Value.run (F := Ideal) m' ρ')⟩
  have e : refResult (F := Ideal) (m' ((c.tc : Thread Cert.ReferenceIdeal.nD Cert.ReferenceIdeal.τ).loc Cert.ReferenceIdeal.main_arg0)) = refResult (xOf m c) := by
    rw [agree c]
  have e' := e.trans (result_eq (xOf m c))
  unfold refResult refFirst setCol marked lastCol rows zeros at e'
  exact e'

/-- All the claims. -/
theorem claim : Cert.Claim := ⟨Cert.Kernel.Gen.facts, Cert.KernelIdeal.Gen.facts, Cert.ReferenceIdeal.Gen.facts,
  frame_kernel, frame_kernelIdeal, frame_referenceIdeal, trivial, one_result⟩

end Cert.Proof

end
